-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x7168 : Shape := ⟨3, ![1, 256, 7168]⟩
abbrev S7168 : Shape := ⟨1, ![7168]⟩
abbrev S7168x18432 : Shape := ⟨2, ![7168, 18432]⟩
abbrev S18432 : Shape := ⟨1, ![18432]⟩
abbrev S1x7168 : Shape := ⟨2, ![1, 7168]⟩
abbrev S1x18432 : Shape := ⟨2, ![1, 18432]⟩
abbrev S1x256x18432 : Shape := ⟨3, ![1, 256, 18432]⟩
abbrev S1x256 : Shape := ⟨2, ![1, 256]⟩
abbrev S7168x512 : Shape := ⟨2, ![7168, 512]⟩
abbrev S1x512 : Shape := ⟨2, ![1, 512]⟩
abbrev S1x256x512 : Shape := ⟨3, ![1, 256, 512]⟩
abbrev S256x7168 : Shape := ⟨2, ![256, 7168]⟩
abbrev S256x128 : Shape := ⟨2, ![256, 128]⟩
abbrev S1x32x7168 : Shape := ⟨3, ![1, 32, 7168]⟩
abbrev S32x7168 : Shape := ⟨2, ![32, 7168]⟩
abbrev S32 : Shape := ⟨1, ![32]⟩
abbrev S32x1 : Shape := ⟨2, ![32, 1]⟩
abbrev S32x128 : Shape := ⟨2, ![32, 128]⟩
abbrev S128x256 : Shape := ⟨2, ![128, 256]⟩
abbrev S256x512 : Shape := ⟨2, ![256, 512]⟩
abbrev S256x1024 : Shape := ⟨2, ![256, 1024]⟩
abbrev S1024x512 : Shape := ⟨2, ![1024, 512]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S1x256x7168, .bf16⟩
  | .hbm, ⟨1, _⟩ => ⟨S7168, .f32⟩
  | .hbm, ⟨2, _⟩ => ⟨S7168x18432, .i8⟩
  | .hbm, ⟨3, _⟩ => ⟨S18432, .f32⟩
  | .hbm, ⟨4, _⟩ => ⟨S1x7168, .f32⟩
  | .hbm, ⟨5, _⟩ => ⟨S1x18432, .f32⟩
  | .hbm, ⟨6, _⟩ => ⟨S1x256x18432, .bf16⟩
  | .hbm, ⟨7, _⟩ => ⟨S1x256x7168, .i8⟩
  | .hbm, ⟨8, _⟩ => ⟨S1x256, .f32⟩
  | .local _ .vmem, ⟨0, _⟩ => ⟨S1x256x7168, .bf16⟩
  | .local _ .vmem, ⟨1, _⟩ => ⟨S1x7168, .f32⟩
  | .local _ .vmem, ⟨2, _⟩ => ⟨S7168x512, .i8⟩
  | .local _ .vmem, ⟨3, _⟩ => ⟨S7168x512, .i8⟩
  | .local _ .vmem, ⟨4, _⟩ => ⟨S1x512, .f32⟩
  | .local _ .vmem, ⟨5, _⟩ => ⟨S1x512, .f32⟩
  | .local _ .vmem, ⟨6, _⟩ => ⟨S1x256x512, .bf16⟩
  | .local _ .vmem, ⟨7, _⟩ => ⟨S1x256x512, .bf16⟩
  | .local _ .vmem, ⟨8, _⟩ => ⟨S1x256x7168, .i8⟩
  | .local _ .vmem, ⟨9, _⟩ => ⟨S1x256, .f32⟩
  | .local _ .vmem, ⟨10, _⟩ => ⟨S256x7168, .bf16⟩
  | .local _ .vmem, ⟨11, _⟩ => ⟨S256x128, .f32⟩
  | _, _ => ⟨S1x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7168x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256x7168 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x256x7168 : Shape := ⟨3, ![1, 256, 7168]⟩
abbrev S7168 : Shape := ⟨1, ![7168]⟩
abbrev S7168x18432 : Shape := ⟨2, ![7168, 18432]⟩
abbrev S18432 : Shape := ⟨1, ![18432]⟩
abbrev S1x256x18432 : Shape := ⟨3, ![1, 256, 18432]⟩
abbrev S1x256 : Shape := ⟨2, ![1, 256]⟩
abbrev S1x1x7168 : Shape := ⟨3, ![1, 1, 7168]⟩
abbrev S1x256x1 : Shape := ⟨3, ![1, 256, 1]⟩
abbrev S1x256x14x512 : Shape := ⟨4, ![1, 256, 14, 512]⟩
abbrev S14x512x18432 : Shape := ⟨3, ![14, 512, 18432]⟩
abbrev S14x18432x1x256 : Shape := ⟨4, ![14, 18432, 1, 256]⟩
abbrev S1x256x14x18432 : Shape := ⟨4, ![1, 256, 14, 18432]⟩
abbrev S1x1x18432 : Shape := ⟨3, ![1, 1, 18432]⟩

abbrev nBuf : Space → Nat
  | .hbm => 7
  | .vmem => 7
  | .smem => 0
  | _ => 0

abbrev bufTy : (tb : Table) → Fin (tcTables nBuf tb) → BufTy
  | .hbm, ⟨0, _⟩ => ⟨S1x256x7168, .bf16⟩
  | .hbm, ⟨1, _⟩ => ⟨S7168, .f32⟩
  | .hbm, ⟨2, _⟩ => ⟨S7168x18432, .i8⟩
  | .hbm, ⟨3, _⟩ => ⟨S18432, .f32⟩
  | .hbm, ⟨4, _⟩ => ⟨S1x256x18432, .bf16⟩
  | .hbm, ⟨5, _⟩ => ⟨S1x256x7168, .i8⟩
  | .hbm, ⟨6, _⟩ => ⟨S1x256, .f32⟩
  | .local _ .vmem, ⟨0, _⟩ => ⟨S1x256x7168, .bf16⟩
  | .local _ .vmem, ⟨1, _⟩ => ⟨S7168, .f32⟩
  | .local _ .vmem, ⟨2, _⟩ => ⟨S7168x18432, .i8⟩
  | .local _ .vmem, ⟨3, _⟩ => ⟨S18432, .f32⟩
  | .local _ .vmem, ⟨4, _⟩ => ⟨S1x256x18432, .bf16⟩
  | .local _ .vmem, ⟨5, _⟩ => ⟨S1x256x7168, .i8⟩
  | .local _ .vmem, ⟨6, _⟩ => ⟨S1x256, .f32⟩
  | _, _ => ⟨S1x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x18432 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256x18432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x7168 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KRuns.lean ====
/- The ideal kernel's body: its branch condition in closed form, its staging buffers and its scratch. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, e0]
    word_cmp
   : ∀ t : Fin grid0.N, cond0_0 (grid0.coords t) ↔ t.val % 36 = 0)

/-! ## The kernel body on any staging memrefs: a subtype the run finds -/

/-- One staging buffer of output window 4, through which its contents are stated (`View.read_writes_of_cover`: the
    choice does not matter). -/
abbrev VO0_4 : View sig .tc .vmem S1x256x512 .bf16 := (Memref.whole cc0_stg4_0 : Memref sig .tc .vmem S1x256x512 .bf16).view
/-- One staging buffer of output window 5, through which its contents are stated (`View.read_writes_of_cover`: the
    choice does not matter). -/
abbrev VO0_5 : View sig .tc .vmem S1x256x7168 .i8 := (Memref.whole cc0_stg5_0 : Memref sig .tc .vmem S1x256x7168 .i8).view
/-- One staging buffer of output window 6, through which its contents are stated (`View.read_writes_of_cover`: the
    choice does not matter). -/
abbrev VO0_6 : View sig .tc .vmem S1x256 .f32 := (Memref.whole cc0_stg6_0 : Memref sig .tc .vmem S1x256 .f32).view
/-- Each window's current staging memref at point `t`, spelled as the pipeline passes it (`bodyAt0`), and its wholeness. -/
abbrev ms0_0 (t : Fin cfg0.N) : Memref sig .tc .vmem S1x256x7168 .bf16 := win0_0.stage (cfg0.slots t 0)
/-- That buffer is a whole one: the activations. -/
abbrev hs0_0 (t : Fin cfg0.N) : (ms0_0 t).IsWhole := hstage0_0 ((cfg0.slots t 0).cast nbuf0_0)
/-- Point `t`'s buffer for the smoothing factors. -/
abbrev ms0_1 (t : Fin cfg0.N) : Memref sig .tc .vmem S1x7168 .f32 := win0_1.stage (cfg0.slots t 1)
/-- That buffer is a whole one: the smoothing factors. -/
abbrev hs0_1 (t : Fin cfg0.N) : (ms0_1 t).IsWhole := hstage0_1 ((cfg0.slots t 1).cast nbuf0_1)
/-- Point `t`'s buffer for the weights. -/
abbrev ms0_2 (t : Fin cfg0.N) : Memref sig .tc .vmem S7168x512 .i8 := win0_2.stage (cfg0.slots t 2)
/-- That buffer is a whole one: the weights. -/
abbrev hs0_2 (t : Fin cfg0.N) : (ms0_2 t).IsWhole := hstage0_2 ((cfg0.slots t 2).cast nbuf0_2)
/-- Point `t`'s buffer for the column scales. -/
abbrev ms0_3 (t : Fin cfg0.N) : Memref sig .tc .vmem S1x512 .f32 := win0_3.stage (cfg0.slots t 3)
/-- That buffer is a whole one: the column scales. -/
abbrev hs0_3 (t : Fin cfg0.N) : (ms0_3 t).IsWhole := hstage0_3 ((cfg0.slots t 3).cast nbuf0_3)
/-- Point `t`'s buffer for the first result. -/
abbrev ms0_4 (t : Fin cfg0.N) : Memref sig .tc .vmem S1x256x512 .bf16 := win0_4.stage (cfg0.slots t 4)
/-- That buffer is a whole one: the first result. -/
abbrev hs0_4 (t : Fin cfg0.N) : (ms0_4 t).IsWhole := hstage0_4 ((cfg0.slots t 4).cast nbuf0_4)
/-- Point `t`'s buffer for the second result. -/
abbrev ms0_5 (t : Fin cfg0.N) : Memref sig .tc .vmem S1x256x7168 .i8 := win0_5.stage (cfg0.slots t 5)
/-- That buffer is a whole one: the second result. -/
abbrev hs0_5 (t : Fin cfg0.N) : (ms0_5 t).IsWhole := hstage0_5 ((cfg0.slots t 5).cast nbuf0_5)
/-- Point `t`'s buffer for the third result. -/
abbrev ms0_6 (t : Fin cfg0.N) : Memref sig .tc .vmem S1x256 .f32 := win0_6.stage (cfg0.slots t 6)
/-- That buffer is a whole one: the third result. -/
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x7168 .bf16 := Memref.whole cc0_scratch0
/-- The scratch for the scales. -/
abbrev scM0_1 : Memref sig .tc .vmem S256x128 .f32 := Memref.whole cc0_scratch1
/-- The scratch `arg8` the kernel carries between points, as a view: what it holds is stated through it. -/
abbrev VS0_0 : View sig .tc .vmem S256x7168 .bf16 := scM0_0.view
/-- The scratch `arg9` the kernel carries between points, as a view: what it holds is stated through it. -/
abbrev VS0_1 : View sig .tc .vmem S256x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KRunA.lean ====
/- The ideal kernel's body run at the first grid point, where it quantises the activations and then multiplies. -/
module

public import proofs.«01_k».proof.Proof.KRuns

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point (its `scf.if` taken). From whole staging buffers — the inputs' at their contents, the outputs' and the
    scratch at anything — it runs to the inputs' as they were and each output and scratch buffer with a list of pieces written into it. -/
noncomputable def kernelRun0_A (c : Dev nD) (i : grid0.Coords) (arg1 : Memref sig .tc .vmem S1x256x7168 .bf16) (harg1 : arg1.IsWhole) (arg2 : Memref sig .tc .vmem S1x7168 .f32) (harg2 : arg2.IsWhole) (arg3 : Memref sig .tc .vmem S7168x512 .i8) (harg3 : arg3.IsWhole) (arg4 : Memref sig .tc .vmem S1x512 .f32) (harg4 : arg4.IsWhole) (arg5 : Memref sig .tc .vmem S1x256x512 .bf16) (harg5 : arg5.IsWhole) (arg6 : Memref sig .tc .vmem S1x256x7168 .i8) (harg6 : arg6.IsWhole) (arg7 : Memref sig .tc .vmem S1x256 .f32) (harg7 : arg7.IsWhole) (arg8 : Memref sig .tc .vmem S256x7168 .bf16) (harg8 : arg8.IsWhole) (arg9 : Memref sig .tc .vmem S256x128 .f32) (harg9 : arg9.IsWhole) (hc0 : cond0_0 i)
    (x0 : Vec F S1x256x7168 .bf16) (x1 : Vec F S1x7168 .f32) (x2 : Vec F S7168x512 .i8) (x3 : Vec F S1x512 .f32) :
    Σ' (L4 : List (View.Piece (Elt F) S1x256x512 .bf16)), Σ' (L5 : List (View.Piece (Elt F) S1x256x7168 .i8)), Σ' (L6 : List (View.Piece (Elt F) S1x256 .f32)), Σ' (LS0 : List (View.Piece (Elt F) S256x7168 .bf16)), { LS1 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_w8a8_linear i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_w8a8_linear_eq_skeleton]; unfold cc0_w8a8_linear_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KRunB.lean ====
/- The ideal kernel's body run at a later grid point, where it multiplies by the next block of weights. -/
module

public import proofs.«01_k».proof.Proof.KRunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a later point (its `scf.if` not taken). From whole staging buffers — the inputs' at their contents, the codes' and the
    scales' and both scratch buffers at given contents, the product's at anything — it runs to the product's buffer with a list of pieces
    written into it and every other buffer as it was. -/
noncomputable def kernelRun0_B (c : Dev nD) (i : grid0.Coords) (arg1 : Memref sig .tc .vmem S1x256x7168 .bf16) (harg1 : arg1.IsWhole) (arg2 : Memref sig .tc .vmem S1x7168 .f32) (harg2 : arg2.IsWhole) (arg3 : Memref sig .tc .vmem S7168x512 .i8) (harg3 : arg3.IsWhole) (arg4 : Memref sig .tc .vmem S1x512 .f32) (harg4 : arg4.IsWhole) (arg5 : Memref sig .tc .vmem S1x256x512 .bf16) (harg5 : arg5.IsWhole) (arg6 : Memref sig .tc .vmem S1x256x7168 .i8) (harg6 : arg6.IsWhole) (arg7 : Memref sig .tc .vmem S1x256 .f32) (harg7 : arg7.IsWhole) (arg8 : Memref sig .tc .vmem S256x7168 .bf16) (harg8 : arg8.IsWhole) (arg9 : Memref sig .tc .vmem S256x128 .f32) (harg9 : arg9.IsWhole) (hc0 : ¬cond0_0 i)
    (x0 : Vec F S1x256x7168 .bf16) (x1 : Vec F S1x7168 .f32) (x2 : Vec F S7168x512 .i8) (x3 : Vec F S1x512 .f32) (xo5 : Vec F S1x256x7168 .i8) (xo6 : Vec F S1x256 .f32) (xs0 : Vec F S256x7168 .bf16) (xs1 : Vec F S256x128 .f32) :
    { L4 : List (View.Piece (Elt F) S1x256x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5 ∗ owns (c : Thread nD τ) arg7 fullShare xo6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xo5 ∗ owns (c : Thread nD τ) arg7 fullShare xo6 ∗ owns (c : Thread nD τ) arg8 fullShare xs0 ∗ owns (c : Thread nD τ) arg9 fullShare xs1) -∗ K ⟨⟩))
          ⊢ wp frame (wpE (defs₀ (F := F)) Variants.none c none) E (cc0_w8a8_linear i arg1 harg1 arg2 harg2 arg3 harg3 arg4 harg4 arg5 harg5 arg6 harg6 arg7 harg7 arg8 harg8 arg9 harg9) K } := by
  refine ⟨?_, fun E K => ?run⟩
  case run =>
    simp only [cc0_w8a8_linear_eq_skeleton]; unfold cc0_w8a8_linear_skel
    simp only [k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    iexists _; isplitr; · ipureintro; exact harg9.read_unread _
    iexact HS1

end Cert.KernelIdeal.Hand

end
-- ==== Proof.KCanon.lean ====
/- What one run of the ideal kernel's body leaves in each buffer, as a function of the blocks it reads. -/
module

public import proofs.«01_k».proof.Proof.KRunB
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pointwise

/-! ## The contents, as functions of the activations, the smoothing factors, the weights and their scales -/

/-- Rows `32 b … 32 b + 31` of the activations. -/
def strip (x : Vec F S1x256x7168 .bf16) (b : ℕ) (hb : 32 * b + 32 ≤ 256) : Vec F S1x32x7168 .bf16 := fun y =>
  x (ix3 (0 : Fin 1) (⟨32 * b + (y 1).val, by have h : (y 1).val < 32 := (y 1).isLt; omega⟩ : Fin 256) (⟨(y 2).val, (y 2).isLt⟩ : Fin 7168))

/-- A strip index of one of the 256 rows is in range. -/
theorem strip_le (n : ℕ) (h : n < 256) : 32 * (n / 32) + 32 ≤ 256 := by omega

/-- The codes of the whole array, as the scratch holds them (bfloat16): row by row the kernel's own function of the row's strip. -/
def QX (x0 : Vec F S1x256x7168 .bf16) (x1 : Vec F S1x7168 .f32) : Vec F S256x7168 .bf16 := fun y =>
  k0_pay6 (strip x0 ((y 0).val / 32) (strip_le _ (y 0).isLt)) x1
    (ix2 (⟨(y 0).val % 32, Nat.mod_lt _ (by decide)⟩ : Fin 32) (⟨(y 1).val, (y 1).isLt⟩ : Fin 7168))

/-- The rows' scales, repeated along 128 lanes, as the scratch holds them. -/
def SX (x0 : Vec F S1x256x7168 .bf16) (x1 : Vec F S1x7168 .f32) : Vec F S256x128 .f32 := fun y =>
  k0_pay7 (strip x0 ((y 0).val / 32) (strip_le _ (y 0).isLt)) x1
    (ix2 (⟨(y 0).val % 32, Nat.mod_lt _ (by decide)⟩ : Fin 32) (⟨(y 1).val, (y 1).isLt⟩ : Fin 128))

/-- The codes of the whole array, as the second result holds them (8-bit integers). -/
def CX (x0 : Vec F S1x256x7168 .bf16) (x1 : Vec F S1x7168 .f32) : Vec F S1x256x7168 .i8 := fun y =>
  k0_pay5 (strip x0 ((y 1).val / 32) (strip_le _ (y 1).isLt)) x1
    (ix3 (0 : Fin 1) (⟨(y 1).val % 32, Nat.mod_lt _ (by decide)⟩ : Fin 32) (⟨(y 2).val, (y 2).isLt⟩ : Fin 7168))

/-- The rows' scales, as the third result holds them. -/
def TX (x0 : Vec F S1x256x7168 .bf16) (x1 : Vec F S1x7168 .f32) : Vec F S1x256 .f32 := k0_pay58 (SX x0 x1)

/-- One block of the product: the codes `xq` times a block of the weights, 1024 columns of the codes at a time, the sum scaled by the rows'
    scales `sc` and the columns' scales. -/
def YX (xq : Vec F S256x7168 .bf16) (sc : Vec F S256x128 .f32) (x2 : Vec F S7168x512 .i8) (x3 : Vec F S1x512 .f32) : Vec F S1x256x512 .bf16 :=
  k0_pay1
    (k0_pay59
      (View.ld xq (Rect.unit ![0, 0] ![256, 1024] inb_S256x7168_S256x1024_0_0)) (View.ld x2 (Rect.unit ![0, 0] ![1024, 512] inb_S7168x512_S1024x512_0_0))
      (View.ld xq (Rect.unit ![0, 1024] ![256, 1024] inb_S256x7168_S256x1024_0_1024)) (View.ld x2 (Rect.unit ![1024, 0] ![1024, 512] inb_S7168x512_S1024x512_1024_0))
      (View.ld xq (Rect.unit ![0, 2048] ![256, 1024] inb_S256x7168_S256x1024_0_2048)) (View.ld x2 (Rect.unit ![2048, 0] ![1024, 512] inb_S7168x512_S1024x512_2048_0))
      (View.ld xq (Rect.unit ![0, 3072] ![256, 1024] inb_S256x7168_S256x1024_0_3072)) (View.ld x2 (Rect.unit ![3072, 0] ![1024, 512] inb_S7168x512_S1024x512_3072_0)))
    (View.ld xq (Rect.unit ![0, 4096] ![256, 1024] inb_S256x7168_S256x1024_0_4096)) (View.ld x2 (Rect.unit ![4096, 0] ![1024, 512] inb_S7168x512_S1024x512_4096_0))
    (View.ld xq (Rect.unit ![0, 5120] ![256, 1024] inb_S256x7168_S256x1024_0_5120)) (View.ld x2 (Rect.unit ![5120, 0] ![1024, 512] inb_S7168x512_S1024x512_5120_0))
    (View.ld xq (Rect.unit ![0, 6144] ![256, 1024] inb_S256x7168_S256x1024_0_6144)) (View.ld x2 (Rect.unit ![6144, 0] ![1024, 512] inb_S7168x512_S1024x512_6144_0))
    (View.ld sc (Rect.unit ![0, 0] ![256, 1] inb_S256x128_S256x1_0_0)) x3

/-! ## The eight strips' payloads are one function of the strip -/

/-- The second strip's codes as floats. -/
theorem pay_q1 (v : Vec F S1x32x7168 .bf16) (x1 : Vec F S1x7168 .f32) : k0_pay12 v x1 = k0_pay6 v x1 := rfl
/-- The second strip's codes. -/
theorem pay_c1 (v : Vec F S1x32x7168 .bf16) (x1 : Vec F S1x7168 .f32) : k0_pay11 v x1 = k0_pay5 v x1 := rfl
/-- The second strip's scales. -/
theorem pay_s1 (v : Vec F S1x32x7168 .bf16) (x1 : Vec F S1x7168 .f32) : k0_pay13 v x1 = k0_pay7 v x1 := rfl
/-- The third strip's codes as floats. -/
theorem pay_q2 (v : Vec F S1x32x7168 .bf16) (x1 : Vec F S1x7168 .f32) : k0_pay19 (k0_pay14 v) x1 = k0_pay6 v x1 := rfl
/-- The third strip's codes. -/
theorem pay_c2 (v : Vec F S1x32x7168 .bf16) (x1 : Vec F S1x7168 .f32) : k0_pay18 (k0_pay14 v) x1 = k0_pay5 v x1 := rfl
/-- The third strip's scales. -/
theorem pay_s2 (v : Vec F S1x32x7168 .bf16) (x1 : Vec F S1x7168 .f32) : k0_pay20 (k0_pay14 v) x1 = k0_pay7 v x1 := rfl
/-- The fourth strip's codes as floats. -/
theorem pay_q3 (v : Vec F S1x32x7168 .bf16) (x1 : Vec F S1x7168 .f32) : k0_pay26 (k0_pay21 v) x1 = k0_pay6 v x1 := rfl
/-- The fourth strip's codes. -/
theorem pay_c3 (v : Vec F S1x32x7168 .bf16) (x1 : Vec F S1x7168 .f32) : k0_pay25 (k0_pay21 v) x1 = k0_pay5 v x1 := rfl
/-- The fourth strip's scales. -/
theorem pay_s3 (v : Vec F S1x32x7168 .bf16) (x1 : Vec F S1x7168 .f32) : k0_pay27 (k0_pay21 v) x1 = k0_pay7 v x1 := rfl
/-- The fifth strip's codes as floats. -/
theorem pay_q4 (v : Vec F S1x32x7168 .bf16) (x1 : Vec F S1x7168 .f32) : k0_pay32 (k0_pay28 v x1) = k0_pay6 v x1 := rfl
/-- The fifth strip's codes. -/
theorem pay_c4 (v : Vec F S1x32x7168 .bf16) (x1 : Vec F S1x7168 .f32) : k0_pay31 (k0_pay28 v x1) = k0_pay5 v x1 := rfl
/-- The fifth strip's scales. -/
theorem pay_s4 (v : Vec F S1x32x7168 .bf16) (x1 : Vec F S1x7168 .f32) : k0_pay33 (k0_pay28 v x1) = k0_pay7 v x1 := rfl
/-- The sixth strip's codes as floats. -/
theorem pay_q5 (v : Vec F S1x32x7168 .bf16) (x1 : Vec F S1x7168 .f32) : k0_pay39 (k0_pay34 v x1) (k0_pay35 v x1) = k0_pay6 v x1 := rfl
/-- The sixth strip's codes. -/
theorem pay_c5 (v : Vec F S1x32x7168 .bf16) (x1 : Vec F S1x7168 .f32) : k0_pay38 (k0_pay34 v x1) (k0_pay35 v x1) = k0_pay5 v x1 := rfl
/-- The sixth strip's scales. -/
theorem pay_s5 (v : Vec F S1x32x7168 .bf16) (x1 : Vec F S1x7168 .f32) : k0_pay40 (k0_pay35 v x1) = k0_pay7 v x1 := rfl
/-- The seventh strip's codes as floats. -/
theorem pay_q6 (v : Vec F S1x32x7168 .bf16) (x1 : Vec F S1x7168 .f32) : k0_pay47 (k0_pay41 v x1) (k0_pay42 v x1) k0_pay43 = k0_pay6 v x1 := rfl
/-- The seventh strip's codes. -/
theorem pay_c6 (v : Vec F S1x32x7168 .bf16) (x1 : Vec F S1x7168 .f32) : k0_pay46 (k0_pay41 v x1) (k0_pay42 v x1) k0_pay43 = k0_pay5 v x1 := rfl
/-- The seventh strip's scales. -/
theorem pay_s6 (v : Vec F S1x32x7168 .bf16) (x1 : Vec F S1x7168 .f32) : k0_pay48 (k0_pay42 v x1) k0_pay43 = k0_pay7 v x1 := rfl
/-- The eighth strip's codes as floats. -/
theorem pay_q7 (v : Vec F S1x32x7168 .bf16) (x1 : Vec F S1x7168 .f32) : k0_pay56 (k0_pay49 v x1) (k0_pay50 v x1) (k0_pay51 v x1) k0_pay52 = k0_pay6 v x1 := rfl
/-- The eighth strip's codes. -/
theorem pay_c7 (v : Vec F S1x32x7168 .bf16) (x1 : Vec F S1x7168 .f32) : k0_pay55 (k0_pay49 v x1) (k0_pay50 v x1) (k0_pay51 v x1) k0_pay52 = k0_pay5 v x1 := rfl
/-- The eighth strip's scales. -/
theorem pay_s7 (v : Vec F S1x32x7168 .bf16) (x1 : Vec F S1x7168 .f32) : k0_pay57 (k0_pay50 v x1) (k0_pay51 v x1) k0_pay52 = k0_pay7 v x1 := rfl

/-! ## One strip's payloads are those functions on its rows -/

/-- The strip loaded through its rectangle. -/
theorem ld_strip (x : Vec F S1x256x7168 .bf16) (b o : ℕ) (ho : o = 32 * b) (hb : 32 * b + 32 ≤ 256)
    (inb : ∀ a, (![0, o, 0] : Fin 3 → ℕ) a + (![1, 32, 7168] : Fin 3 → ℕ) a ≤ S1x256x7168.size a) :
    View.ld x (Rect.unit ![0, o, 0] ![1, 32, 7168] inb) = strip x b hb := by
  subst ho; funext y
  show x _ = x _
  congr 1; funext a; apply Fin.ext
  have h0 : (y 0).val < 1 := (y 0).isLt
  match a with
  | ⟨0, _⟩ => rw [Rect.idx_unit_val]; show 0 + (y 0).val = 0; omega
  | ⟨1, _⟩ => rw [Rect.idx_unit_val]; rfl
  | ⟨2, _⟩ => rw [Rect.idx_unit_val]; show 0 + (y 2).val = (y 2).val; omega

/-- Strip equality by its number. -/
theorem strip_congr (x : Vec F S1x256x7168 .bf16) {b b' : ℕ} (h : b = b') (hb hb') : strip x b hb = strip x b' hb' := by subst h; rfl

/-- Strip `b` of the float codes, read through the store that wrote it. -/
theorem QX_emb (x0 : Vec F S1x256x7168 .bf16) (x1 : Vec F S1x7168 .f32) (b o : ℕ) (ho : o = 32 * b) (hb : 32 * b + 32 ≤ 256)
    (inb : ∀ a, (![o, 0] : Fin 2 → ℕ) a + (![32, 7168] : Fin 2 → ℕ) a ≤ S256x7168.size a) (y : S32x7168.Idx) :
    k0_pay6 (strip x0 b hb) x1 y = QX x0 x1 ((Rect.unit (s := S256x7168) ![o, 0] ![32, 7168] inb).emb y) := by
  subst ho
  have h0 : (y 0).val < 32 := (y 0).isLt
  have e0 : ((Rect.unit (s := S256x7168) ![32 * b, 0] ![32, 7168] inb).emb y 0).val = 32 * b + (y 0).val := Rect.idx_unit_val ..
  have e1 : ((Rect.unit (s := S256x7168) ![32 * b, 0] ![32, 7168] inb).emb y 1).val = 0 + (y 1).val := Rect.idx_unit_val ..
  unfold QX
  rw [strip_congr x0 (show _ / 32 = b by rw [e0]; omega) _ hb]
  congr 1; funext a; apply Fin.ext
  match a with
  | ⟨0, _⟩ => show (y 0).val = _ % 32; rw [e0]; omega
  | ⟨1, _⟩ => exact (e1.trans (Nat.zero_add _)).symm

/-- Strip `b` of the scales, read through the store that wrote it. -/
theorem SX_emb (x0 : Vec F S1x256x7168 .bf16) (x1 : Vec F S1x7168 .f32) (b o : ℕ) (ho : o = 32 * b) (hb : 32 * b + 32 ≤ 256)
    (inb : ∀ a, (![o, 0] : Fin 2 → ℕ) a + (![32, 128] : Fin 2 → ℕ) a ≤ S256x128.size a) (y : S32x128.Idx) :
    k0_pay7 (strip x0 b hb) x1 y = SX x0 x1 ((Rect.unit (s := S256x128) ![o, 0] ![32, 128] inb).emb y) := by
  subst ho
  have h0 : (y 0).val < 32 := (y 0).isLt
  have e0 : ((Rect.unit (s := S256x128) ![32 * b, 0] ![32, 128] inb).emb y 0).val = 32 * b + (y 0).val := Rect.idx_unit_val ..
  have e1 : ((Rect.unit (s := S256x128) ![32 * b, 0] ![32, 128] inb).emb y 1).val = 0 + (y 1).val := Rect.idx_unit_val ..
  unfold SX
  rw [strip_congr x0 (show _ / 32 = b by rw [e0]; omega) _ hb]
  congr 1; funext a; apply Fin.ext
  match a with
  | ⟨0, _⟩ => show (y 0).val = _ % 32; rw [e0]; omega
  | ⟨1, _⟩ => exact (e1.trans (Nat.zero_add _)).symm

/-- Strip `b` of the 8-bit codes, read through the store that wrote it. -/
theorem CX_emb (x0 : Vec F S1x256x7168 .bf16) (x1 : Vec F S1x7168 .f32) (b o : ℕ) (ho : o = 32 * b) (hb : 32 * b + 32 ≤ 256)
    (inb : ∀ a, (![0, o, 0] : Fin 3 → ℕ) a + (![1, 32, 7168] : Fin 3 → ℕ) a ≤ S1x256x7168.size a) (y : S1x32x7168.Idx) :
    k0_pay5 (strip x0 b hb) x1 y = CX x0 x1 ((Rect.unit (s := S1x256x7168) ![0, o, 0] ![1, 32, 7168] inb).emb y) := by
  subst ho
  have h0 : (y 0).val < 1 := (y 0).isLt
  have h1 : (y 1).val < 32 := (y 1).isLt
  have e1 : ((Rect.unit (s := S1x256x7168) ![0, 32 * b, 0] ![1, 32, 7168] inb).emb y 1).val = 32 * b + (y 1).val := Rect.idx_unit_val ..
  have e2 : ((Rect.unit (s := S1x256x7168) ![0, 32 * b, 0] ![1, 32, 7168] inb).emb y 2).val = 0 + (y 2).val := Rect.idx_unit_val ..
  unfold CX
  rw [strip_congr x0 (show _ / 32 = b by rw [e1]; omega) _ hb]
  congr 1; funext a; apply Fin.ext
  match a with
  | ⟨0, _⟩ => show (y 0).val = 0; omega
  | ⟨1, _⟩ => show (y 1).val = _ % 32; rw [e1]; omega
  | ⟨2, _⟩ => exact (e2.trans (Nat.zero_add _)).symm

/-! ## What the runs leave -/

variable (c : Dev nD) (i : grid0.Coords) (arg1 : Memref sig .tc .vmem S1x256x7168 .bf16) (harg1 : arg1.IsWhole) (arg2 : Memref sig .tc .vmem S1x7168 .f32) (harg2 : arg2.IsWhole) (arg3 : Memref sig .tc .vmem S7168x512 .i8) (harg3 : arg3.IsWhole) (arg4 : Memref sig .tc .vmem S1x512 .f32) (harg4 : arg4.IsWhole) (arg5 : Memref sig .tc .vmem S1x256x512 .bf16) (harg5 : arg5.IsWhole) (arg6 : Memref sig .tc .vmem S1x256x7168 .i8) (harg6 : arg6.IsWhole) (arg7 : Memref sig .tc .vmem S1x256 .f32) (harg7 : arg7.IsWhole) (arg8 : Memref sig .tc .vmem S256x7168 .bf16) (harg8 : arg8.IsWhole) (arg9 : Memref sig .tc .vmem S256x128 .f32) (harg9 : arg9.IsWhole)
  (x0 : Vec F S1x256x7168 .bf16) (x1 : Vec F S1x7168 .f32) (x2 : Vec F S7168x512 .i8) (x3 : Vec F S1x512 .f32)
  (xo5 : Vec F S1x256x7168 .i8) (xo6 : Vec F S1x256 .f32) (xs0 : Vec F S256x7168 .bf16) (xs1 : Vec F S256x128 .f32)

/-- The first point's stores into the codes' scratch cover it. -/
theorem scover0_A_0 (hc0 : cond0_0 i) (y : S256x7168.Idx) : ∃ pc ∈ (kernelRun0_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.2.1 S32x7168.size (by sl_kernel_rfl) y

/-- The first point's stores into the scales' scratch cover it. -/
theorem scover0_A_1 (hc0 : cond0_0 i) (y : S256x128.Idx) : ∃ pc ∈ (kernelRun0_A c i arg1 harg1 arg2 harg2 arg3 harg3 arg4 harg4 arg5 harg5 arg6 harg6 arg7 harg7 arg8 harg8 arg9 harg9 hc0 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.2.2.1 S32x128.size (by sl_kernel_rfl) y

/-- The first point's store into the product's block covers it. -/
theorem cover0_A_4 (hc0 : cond0_0 i) (y : S1x256x512.Idx) : ∃ pc ∈ (kernelRun0_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).1 S1x256x512.size (by sl_kernel_rfl) y

/-- The first point's stores into the codes cover them. -/
theorem cover0_A_5 (hc0 : cond0_0 i) (y : S1x256x7168.Idx) : ∃ pc ∈ (kernelRun0_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.1 S1x32x7168.size (by sl_kernel_rfl) y

/-- The first point's store into the scales covers them. -/
theorem cover0_A_6 (hc0 : cond0_0 i) (y : S1x256.Idx) : ∃ pc ∈ (kernelRun0_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.1 S1x256.size (by sl_kernel_rfl) y

/-- A later point's store into the product's block covers it. -/
theorem cover0_B_4 (hc0 : ¬cond0_0 i) (y : S1x256x512.Idx) : ∃ pc ∈ (kernelRun0_B c i arg1 harg1 arg2 harg2 arg3 harg3 arg4 harg4 arg5 harg5 arg6 harg6 arg7 harg7 arg8 harg8 arg9 harg9 hc0 x0 x1 x2 x3 xo5 xo6 xs0 xs1).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo5 xo6 xs0 xs1).1 S1x256x512.size (by sl_kernel_rfl) y

/-- The first point leaves the codes in their scratch. -/
theorem scanon_A_0 (hc0 : cond0_0 i) : View.canon (kernelRun0_A c i arg1 harg1 arg2 harg2 arg3 harg3 arg4 harg4 arg5 harg5 arg6 harg6 arg7 harg7 arg8 harg8 arg9 harg9 hc0 x0 x1 x2 x3).2.2.2.1 = QX x0 x1 := by
  funext y
  refine View.canon_apply_of_pieces (QX x0 x1) _ (View.PiecesOf.mem ?_) y (scover0_A_0 c i arg1 harg1 arg2 harg2 arg3 harg3 arg4 harg4 arg5 harg5 arg6 harg6 arg7 harg7 arg8 harg8 arg9 harg9 x0 x1 x2 x3 hc0 y)
  frame_out
  refine ⟨?_, ?_, ?_, ?_, ?_, ?_, ?_, ?_, trivial⟩
  · intro x; dsimp only; rw [ld_strip x0 7 224 rfl (by decide), pay_q7]; exact QX_emb x0 x1 7 224 rfl (by decide) inb_S256x7168_S32x7168_224_0 x
  · intro x; dsimp only; rw [ld_strip x0 6 192 rfl (by decide), pay_q6]; exact QX_emb x0 x1 6 192 rfl (by decide) inb_S256x7168_S32x7168_192_0 x
  · intro x; dsimp only; rw [ld_strip x0 5 160 rfl (by decide), pay_q5]; exact QX_emb x0 x1 5 160 rfl (by decide) inb_S256x7168_S32x7168_160_0 x
  · intro x; dsimp only; rw [ld_strip x0 4 128 rfl (by decide), pay_q4]; exact QX_emb x0 x1 4 128 rfl (by decide) inb_S256x7168_S32x7168_128_0 x
  · intro x; dsimp only; rw [ld_strip x0 3 96 rfl (by decide), pay_q3]; exact QX_emb x0 x1 3 96 rfl (by decide) inb_S256x7168_S32x7168_96_0 x
  · intro x; dsimp only; rw [ld_strip x0 2 64 rfl (by decide), pay_q2]; exact QX_emb x0 x1 2 64 rfl (by decide) inb_S256x7168_S32x7168_64_0 x
  · intro x; dsimp only; rw [ld_strip x0 1 32 rfl (by decide), pay_q1]; exact QX_emb x0 x1 1 32 rfl (by decide) inb_S256x7168_S32x7168_32_0 x
  · intro x; dsimp only; rw [ld_strip x0 0 0 rfl (by decide)]; exact QX_emb x0 x1 0 0 rfl (by decide) inb_S256x7168_S32x7168_0_0 x

/-- The first point leaves the scales in their scratch. -/
theorem scanon_A_1 (hc0 : cond0_0 i) : View.canon (kernelRun0_A c i arg1 harg1 arg2 harg2 arg3 harg3 arg4 harg4 arg5 harg5 arg6 harg6 arg7 harg7 arg8 harg8 arg9 harg9 hc0 x0 x1 x2 x3).2.2.2.2.1 = SX x0 x1 := by
  funext y
  refine View.canon_apply_of_pieces (SX x0 x1) _ (View.PiecesOf.mem ?_) y (scover0_A_1 c i arg1 harg1 arg2 harg2 arg3 harg3 arg4 harg4 arg5 harg5 arg6 harg6 arg7 harg7 arg8 harg8 arg9 harg9 x0 x1 x2 x3 hc0 y)
  frame_out
  refine ⟨?_, ?_, ?_, ?_, ?_, ?_, ?_, ?_, trivial⟩
  · intro x; dsimp only; rw [ld_strip x0 7 224 rfl (by decide), pay_s7]; exact SX_emb x0 x1 7 224 rfl (by decide) inb_S256x128_S32x128_224_0 x
  · intro x; dsimp only; rw [ld_strip x0 6 192 rfl (by decide), pay_s6]; exact SX_emb x0 x1 6 192 rfl (by decide) inb_S256x128_S32x128_192_0 x
  · intro x; dsimp only; rw [ld_strip x0 5 160 rfl (by decide), pay_s5]; exact SX_emb x0 x1 5 160 rfl (by decide) inb_S256x128_S32x128_160_0 x
  · intro x; dsimp only; rw [ld_strip x0 4 128 rfl (by decide), pay_s4]; exact SX_emb x0 x1 4 128 rfl (by decide) inb_S256x128_S32x128_128_0 x
  · intro x; dsimp only; rw [ld_strip x0 3 96 rfl (by decide), pay_s3]; exact SX_emb x0 x1 3 96 rfl (by decide) inb_S256x128_S32x128_96_0 x
  · intro x; dsimp only; rw [ld_strip x0 2 64 rfl (by decide), pay_s2]; exact SX_emb x0 x1 2 64 rfl (by decide) inb_S256x128_S32x128_64_0 x
  · intro x; dsimp only; rw [ld_strip x0 1 32 rfl (by decide), pay_s1]; exact SX_emb x0 x1 1 32 rfl (by decide) inb_S256x128_S32x128_32_0 x
  · intro x; dsimp only; rw [ld_strip x0 0 0 rfl (by decide)]; exact SX_emb x0 x1 0 0 rfl (by decide) inb_S256x128_S32x128_0_0 x

/-- The first point leaves the codes in the second result's buffer. -/
theorem canon_A_5 (hc0 : cond0_0 i) : View.canon (kernelRun0_A c i arg1 harg1 arg2 harg2 arg3 harg3 arg4 harg4 arg5 harg5 arg6 harg6 arg7 harg7 arg8 harg8 arg9 harg9 hc0 x0 x1 x2 x3).2.1 = CX x0 x1 := by
  funext y
  refine View.canon_apply_of_pieces (CX x0 x1) _ (View.PiecesOf.mem ?_) y (cover0_A_5 c i arg1 harg1 arg2 harg2 arg3 harg3 arg4 harg4 arg5 harg5 arg6 harg6 arg7 harg7 arg8 harg8 arg9 harg9 x0 x1 x2 x3 hc0 y)
  frame_out
  refine ⟨?_, ?_, ?_, ?_, ?_, ?_, ?_, ?_, trivial⟩
  · intro x; dsimp only; rw [ld_strip x0 7 224 rfl (by decide), pay_c7]; exact CX_emb x0 x1 7 224 rfl (by decide) inb_S1x256x7168_S1x32x7168_0_224_0 x
  · intro x; dsimp only; rw [ld_strip x0 6 192 rfl (by decide), pay_c6]; exact CX_emb x0 x1 6 192 rfl (by decide) inb_S1x256x7168_S1x32x7168_0_192_0 x
  · intro x; dsimp only; rw [ld_strip x0 5 160 rfl (by decide), pay_c5]; exact CX_emb x0 x1 5 160 rfl (by decide) inb_S1x256x7168_S1x32x7168_0_160_0 x
  · intro x; dsimp only; rw [ld_strip x0 4 128 rfl (by decide), pay_c4]; exact CX_emb x0 x1 4 128 rfl (by decide) inb_S1x256x7168_S1x32x7168_0_128_0 x
  · intro x; dsimp only; rw [ld_strip x0 3 96 rfl (by decide), pay_c3]; exact CX_emb x0 x1 3 96 rfl (by decide) inb_S1x256x7168_S1x32x7168_0_96_0 x
  · intro x; dsimp only; rw [ld_strip x0 2 64 rfl (by decide), pay_c2]; exact CX_emb x0 x1 2 64 rfl (by decide) inb_S1x256x7168_S1x32x7168_0_64_0 x
  · intro x; dsimp only; rw [ld_strip x0 1 32 rfl (by decide), pay_c1]; exact CX_emb x0 x1 1 32 rfl (by decide) inb_S1x256x7168_S1x32x7168_0_32_0 x
  · intro x; dsimp only; rw [ld_strip x0 0 0 rfl (by decide)]; exact CX_emb x0 x1 0 0 rfl (by decide) inb_S1x256x7168_S1x32x7168_0_0_0 x

/-- The first point leaves the scales in the third result's buffer. -/
theorem canon_A_6 (hc0 : cond0_0 i) : View.canon (kernelRun0_A c i arg1 harg1 arg2 harg2 arg3 harg3 arg4 harg4 arg5 harg5 arg6 harg6 arg7 harg7 arg8 harg8 arg9 harg9 hc0 x0 x1 x2 x3).2.2.1 = TX x0 x1 := by
  have h1 : View.canon (kernelRun0_A.sl.HS1_8 c arg1 harg1 arg2 harg2 x0 x1) = SX x0 x1 := scanon_A_1 c i arg1 harg1 arg2 harg2 arg3 harg3 arg4 harg4 arg5 harg5 arg6 harg6 arg7 harg7 arg8 harg8 arg9 harg9 x0 x1 x2 x3 hc0
  unfold kernelRun0_A
  dsimp only
  unfold kernelRun0_A.sl.v353
  rw [View.canon_cons_unit_lit _ _ _ (by decide), View.readCov_eq_canon', h1]
  exact congrArg k0_pay58 (View.ld_unit_lit' inb_S256x128_S256x128_0_0 (SX x0 x1) (by decide))

/-- The first point leaves the product's first block in the first result's buffer. -/
theorem canon_A_4 (hc0 : cond0_0 i) : View.canon (kernelRun0_A c i arg1 harg1 arg2 harg2 arg3 harg3 arg4 harg4 arg5 harg5 arg6 harg6 arg7 harg7 arg8 harg8 arg9 harg9 hc0 x0 x1 x2 x3).1 = YX (QX x0 x1) (SX x0 x1) x2 x3 := by
  have h0 : View.canon (kernelRun0_A.sl.HS0_8 c arg1 harg1 arg2 harg2 x0 x1) = QX x0 x1 := scanon_A_0 c i arg1 harg1 arg2 harg2 arg3 harg3 arg4 harg4 arg5 harg5 arg6 harg6 arg7 harg7 arg8 harg8 arg9 harg9 x0 x1 x2 x3 hc0
  have h1 : View.canon (kernelRun0_A.sl.HS1_8 c arg1 harg1 arg2 harg2 x0 x1) = SX x0 x1 := scanon_A_1 c i arg1 harg1 arg2 harg2 arg3 harg3 arg4 harg4 arg5 harg5 arg6 harg6 arg7 harg7 arg8 harg8 arg9 harg9 x0 x1 x2 x3 hc0
  unfold kernelRun0_A
  dsimp only
  rw [View.canon_cons_unit_lit _ _ _ (by decide)]
  unfold kernelRun0_A.sl.r_11 kernelRun0_A.sl.v4 kernelRun0_A.sl.v11 kernelRun0_A.sl.v18 kernelRun0_A.sl.v25 kernelRun0_A.sl.v32 kernelRun0_A.sl.v39 kernelRun0_A.sl.v46 kernelRun0_A.sl.v54
  simp only [View.readCov_eq_canon', h0, h1, View.readAt_eq_ld, Memref.IsWhole.read_unread]
  rw [View.ld_unit_lit' inb_S1x512_S1x512_0_0 x3 (by decide)]
  rfl

/-- A later point leaves the product's next block in the first result's buffer. -/
theorem canon_B_4 (hc0 : ¬cond0_0 i) : View.canon (kernelRun0_B c i arg1 harg1 arg2 harg2 arg3 harg3 arg4 harg4 arg5 harg5 arg6 harg6 arg7 harg7 arg8 harg8 arg9 harg9 hc0 x0 x1 x2 x3 xo5 xo6 xs0 xs1).1 = YX xs0 xs1 x2 x3 := by
  frame_out
  rfl

end Cert.KernelIdeal.Hand

end
-- ==== Proof.KFrame.lean ====
/- The ideal kernel's run: what each buffer holds after every grid point, the body's obligation at every point, the run, and its frame. -/
module

public import proofs.«01_k».proof.Proof.KCanon
public import Idealize.ShloMosaic.Lib.Claim
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The activations and the smoothing factors are one block, the same at every point -/

/-- The first grid point. -/
def t0 : Fin cfg0.N := ⟨0, by rw [show cfg0.N = 36 from N_0]; decide⟩

/-- The activations, as the pipeline stages them. -/
def X0 (c : Dev nD) : Vec F S1x256x7168 .bf16 := iblk m c 0 t0

/-- The smoothing factors, as the pipeline stages them. -/
def X1 (c : Dev nD) : Vec F S1x7168 .f32 := iblk m c 1 t0

/-- Every point stages the same activations. -/
theorem iblk_0 (c : Dev nD) (t : Fin cfg0.N) : iblk m c 0 t = X0 m c := rfl
/-- Every point stages the same smoothing factors. -/
theorem iblk_1 (c : Dev nD) (t : Fin cfg0.N) : iblk m c 1 t = X1 m c := rfl

/-- The codes in the scratch, from the first point on. -/
abbrev Q (c : Dev nD) : Vec F S256x7168 .bf16 := QX (X0 m c) (X1 m c)
/-- The scales in the scratch, from the first point on. -/
abbrev SC (c : Dev nD) : Vec F S256x128 .f32 := SX (X0 m c) (X1 m c)
/-- The product's block at a point. -/
abbrev YB (c : Dev nD) (t : Fin cfg0.N) : Vec F S1x256x512 .bf16 := YX (Q m c) (SC m c) (iblk m c 2 t) (iblk m c 3 t)
/-- The codes in the second result's buffer. -/
abbrev CB (c : Dev nD) : Vec F S1x256x7168 .i8 := CX (X0 m c) (X1 m c)
/-- The scales in the third result's buffer. -/
abbrev TB (c : Dev nD) : Vec F S1x256 .f32 := TX (X0 m c) (X1 m c)

/-! ## The invariant -/

/-- Before the first point the scratch holds anything; afterwards the codes and the scales. -/
def PhiS (c : Dev nD) : (n : ℕ) → n ≤ cfg0.N → sProp 𝕄
  | 0, _ => Pipeline.ΦA spec0 c
  | n + 1, hn => iprop(iprop(owns (c : Thread nD τ) scM0_0 fullShare (Q m c) ∗ owns (c : Thread nD τ) scM0_1 fullShare (SC m c)) ∗ (∃ r, prngReg c r))

/-- Before the first point the invariant leaves the scratch free. -/
theorem PhiS_zero (c : Dev nD) (n : ℕ) (h : n ≤ cfg0.N) (hz : n = 0) : PhiS m c n h = Pipeline.ΦA spec0 c := by
  subst hz; rfl

/-- After any point the invariant fixes the scratch. -/
theorem PhiS_succ (c : Dev nD) (n : ℕ) (hn : n < cfg0.N) :
    PhiS m c (n + 1) hn = iprop(iprop(owns (c : Thread nD τ) scM0_0 fullShare (Q m c) ∗ owns (c : Thread nD τ) scM0_1 fullShare (SC m c)) ∗ (∃ r, prngReg c r)) := rfl

/-- At any point but the first the invariant fixes the scratch. -/
theorem PhiS_pos (c : Dev nD) (n : ℕ) (h : n ≤ cfg0.N) (hz : n ≠ 0) :
    PhiS m c n h = iprop(iprop(owns (c : Thread nD τ) scM0_0 fullShare (Q m c) ∗ owns (c : Thread nD τ) scM0_1 fullShare (SC m c)) ∗ (∃ r, prngReg c r)) := by
  cases n with
  | zero => exact absurd rfl hz
  | succ n => rfl

/-! ## The pipeline's proof data -/

/-- After the body at point `t`: each input's buffer at its block, the product's at its block, the codes' and the scales' at what the first
    point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => YB m c t
    | ⟨5, _⟩ => CB m c
    | ⟨6, _⟩ => TB m c
  Φ t := PhiS m c t.val (Nat.le_of_lt_succ t.isLt)
  q _ := fullShare
  owed _ := 0

/-- The run starts from the arrays as the region finds them. -/
theorem A_eq (c : Dev nD) (w : Fin cfg0.W) : (dats m 0 c).A w = V m c (Pipeline.arrRef spec0 w) := by
  dsimp only [dats]

/-- The invariant of the proof data before point `t` is `PhiS`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The activations stay in their buffer. -/
theorem after0_0 (c : Dev nD) (t : Fin cfg0.N) : (dats m 0 c).after 0 t = iblk m c 0 t := by dsimp only [dats]
/-- The smoothing factors stay in their buffer. -/
theorem after0_1 (c : Dev nD) (t : Fin cfg0.N) : (dats m 0 c).after 1 t = iblk m c 1 t := by dsimp only [dats]
/-- The weights stay in their buffer. -/
theorem after0_2 (c : Dev nD) (t : Fin cfg0.N) : (dats m 0 c).after 2 t = iblk m c 2 t := by dsimp only [dats]
/-- The column scales stay in their buffer. -/
theorem after0_3 (c : Dev nD) (t : Fin cfg0.N) : (dats m 0 c).after 3 t = iblk m c 3 t := by dsimp only [dats]
/-- The first result's buffer holds the point's block of the product. -/
theorem after0_4 (c : Dev nD) (t : Fin cfg0.N) : (dats m 0 c).after 4 t = YB m c t := by dsimp only [dats]
/-- The second result's buffer holds the codes. -/
theorem after0_5 (c : Dev nD) (t : Fin cfg0.N) : (dats m 0 c).after 5 t = CB m c := by dsimp only [dats]
/-- The third result's buffer holds the scales. -/
theorem after0_6 (c : Dev nD) (t : Fin cfg0.N) : (dats m 0 c).after 6 t = TB m c := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
/-- Each point finds the smoothing factors staged. -/
theorem before0_1 (c : Dev nD) (t : Fin cfg0.N) (d) : (dats m 0 c).before 1 t d = iblk m c 1 t :=
  before0_1_of m (dats m 0 c) (A_eq m c 1) (after0_1 m c) t d
/-- Each point finds its block of the weights staged. -/
theorem before0_2 (c : Dev nD) (t : Fin cfg0.N) (d) : (dats m 0 c).before 2 t d = iblk m c 2 t :=
  before0_2_of m (dats m 0 c) (A_eq m c 2) (after0_2 m c) t d
/-- Each point finds its block of the column scales staged. -/
theorem before0_3 (c : Dev nD) (t : Fin cfg0.N) (d) : (dats m 0 c).before 3 t d = iblk m c 3 t :=
  before0_3_of m (dats m 0 c) (A_eq m c 3) (after0_3 m c) t d
/-- The second result's buffer is not renewed after the first point. -/
theorem fresh0_5 : ∀ t : Fin cfg0.N, t.val ≠ 0 → cfg0.fresh 5 t.val = false := by decide +kernel
/-- The third result's buffer is not renewed after the first point. -/
theorem fresh0_6 : ∀ t : Fin cfg0.N, t.val ≠ 0 → cfg0.fresh 6 t.val = false := by decide +kernel

/-- so at a later point the codes' buffer holds what the first point stored, -/
theorem before0_5_B (c : Dev nD) (t : Fin cfg0.N) (h0 : t.val ≠ 0) (d) : (dats m 0 c).before 5 t d = CB m c := by
  rw [Dat.before_out_traj (dats m 0 c) 5 rfl (fun _ _ => rfl) (fun t _ _ _ => by rw [after0_5, after0_5]) t.val t rfl d,
    fresh0_5 t h0, if_neg Bool.false_ne_true, after0_5]

/-- and the scales' buffer too. -/
theorem before0_6_B (c : Dev nD) (t : Fin cfg0.N) (h0 : t.val ≠ 0) (d) : (dats m 0 c).before 6 t d = TB m c := by
  rw [Dat.before_out_traj (dats m 0 c) 6 rfl (fun _ _ => rfl) (fun t _ _ _ => by rw [after0_6, after0_6]) t.val t rfl d,
    fresh0_6 t h0, if_neg Bool.false_ne_true, after0_6]

/-- The first point stores into both buffers. -/
theorem idle0_5 : ∀ t : Fin cfg0.N, t.val = 0 → cfg0.idle 5 (cfg0.grid.coords t) = false := by decide +kernel
/-- The first point works on the third result. -/
theorem idle0_6 : ∀ t : Fin cfg0.N, t.val = 0 → cfg0.idle 6 (cfg0.grid.coords t) = false := by decide +kernel

/-- A buffer that holds what the point's data say is left as the obligation asks, idle point or not. -/
theorem leaves_of (c : Dev nD) (w : Fin cfg0.W) (t : Fin cfg0.N)
    (h : cfg0.idle w (cfg0.grid.coords t) = true → ∀ d, (dats m 0 c).before w t d = (dats m 0 c).after w t) :
    owns (c : Thread nD τ) ((cfg0.win w).stage (cfg0.slots t w)) fullShare ((dats m 0 c).after w t) ⊢ (dats m 0 c).leavesExact w t := by
  unfold Dat.leavesExact
  cases hi : cfg0.idle w (cfg0.grid.coords t)
  · exact Idealize.SL.BI.Entails.refl _
  · cases hf : (cfg0.win w).flush t
    · dsimp only
      simp only [h hi]
      iintro H; iexists (dats m 0 c).after w t; iexact H
    · exact Idealize.SL.BI.Entails.refl _

/-- What a point leaves in the second result's buffer: the codes. -/
theorem leaves0_5 (c : Dev nD) (t : Fin cfg0.N) :
    owns (c : Thread nD τ) (ms0_5 t) fullShare (CB m c) ⊢ (dats m 0 c).leavesExact 5 t :=
  leaves_of m c 5 t fun hi d => (before0_5_B m c t (fun hz => by rw [idle0_5 t hz] at hi; exact Bool.false_ne_true hi) d).trans (after0_5 m c t).symm
/-- What a point leaves in the third result's buffer: the scales. -/
theorem leaves0_6 (c : Dev nD) (t : Fin cfg0.N) :
    owns (c : Thread nD τ) (ms0_6 t) fullShare (TB m c) ⊢ (dats m 0 c).leavesExact 6 t :=
  leaves_of m c 6 t fun hi d => (before0_6_B m c t (fun hz => by rw [idle0_6 t hz] at hi; exact Bool.false_ne_true hi) d).trans (after0_6 m c t).symm

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t
    ∗ (dats m 0 c).leavesExact 6 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 36 := lt_of_lt_of_eq t.isLt (show cfg0.N = 36 from N_0)
  by_cases h0 : t.val % 36 = 0
  · by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t)).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hg]
      · isplitl [HS0 HS1]
        · isplitl [HS0]
          · unfold owns; iexists _; isplitr
            swap; · iexact HS0
            ipureintro; exact (View.read_writes_eq_canon _ _ _ (scover0_A_0 c _ _ _ _ _ _ _ _ _ _ _ _ _ _ _ _ _ _ _ _ _ _ _ ((hcond0_0 t).mpr h0))).trans (scanon_A_0 c _ _ _ _ _ _ _ _ _ _ _ _ _ _ _ _ _ _ _ _ _ _ _ ((hcond0_0 t).mpr h0))
          unfold owns; iexists _; isplitr
          swap; · iexact HS1
          ipureintro; exact (View.read_writes_eq_canon _ _ _ (scover0_A_1 c _ _ _ _ _ _ _ _ _ _ _ _ _ _ _ _ _ _ _ _ _ _ _ ((hcond0_0 t).mpr h0))).trans (scanon_A_1 c _ _ _ _ _ _ _ _ _ _ _ _ _ _ _ _ _ _ _ _ _ _ _ ((hcond0_0 t).mpr h0))
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (View.read_writes_eq_canon _ _ _ (cover0_A_4 c _ _ _ _ _ _ _ _ _ _ _ _ _ _ _ _ _ _ _ _ _ _ _ ((hcond0_0 t).mpr h0))).trans (canon_A_4 c _ _ _ _ _ _ _ _ _ _ _ _ _ _ _ _ _ _ _ _ _ _ _ ((hcond0_0 t).mpr h0))
      isplitl [H5]
      · iapply (leaves0_5 m c t); unfold owns; iexists _; isplitr
        swap; · iexact H5
        ipureintro; exact (View.read_writes_eq_canon _ _ _ (cover0_A_5 c _ _ _ _ _ _ _ _ _ _ _ _ _ _ _ _ _ _ _ _ _ _ _ ((hcond0_0 t).mpr h0))).trans (canon_A_5 c _ _ _ _ _ _ _ _ _ _ _ _ _ _ _ _ _ _ _ _ _ _ _ ((hcond0_0 t).mpr h0))
      iapply (leaves0_6 m c t); unfold owns; iexists _; isplitr
      swap; · iexact H6
      ipureintro; exact (View.read_writes_eq_canon _ _ _ (cover0_A_6 c _ _ _ _ _ _ _ _ _ _ _ _ _ _ _ _ _ _ _ _ _ _ _ ((hcond0_0 t).mpr h0))).trans (canon_A_6 c _ _ _ _ _ _ _ _ _ _ _ _ _ _ _ _ _ _ _ _ _ _ _ ((hcond0_0 t).mpr h0))
    · exfalso; have hN : t.val < 36 := lt_of_lt_of_eq t.isLt (show cfg0.N = 36 from N_0); omega
  · by_cases hz : t.val = 0
    · exfalso; have hN : t.val < 36 := lt_of_lt_of_eq t.isLt (show cfg0.N = 36 from N_0); omega
    · rw [PhiS_castSucc m c t, PhiS_pos m c _ _ hz]
      simp only [before0_5_B m c t hz, before0_6_B m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (CB m c) (TB m c) (Q m c) (SC m c)).2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (View.read_writes_eq_canon _ _ _ (cover0_B_4 c _ _ _ _ _ _ _ _ _ _ _ _ _ _ _ _ _ _ _ _ _ _ _ _ _ _ _ (fun h => h0 ((hcond0_0 t).mp h)))).trans (canon_B_4 c _ _ _ _ _ _ _ _ _ _ _ _ _ _ _ _ _ _ _ _ _ _ _ _ _ _ _ (fun h => h0 ((hcond0_0 t).mp h)))
      isplitl [H5]
      · iapply (leaves0_5 m c t); iexact H5
      iapply (leaves0_6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 36 := N_0; omega)

/-! ## The run and the frame -/

-- `θ_run_frame_track`'s implicit arguments are found by unifying its conclusion with this one, which takes unfolding plain
-- definitions in a metavariable's type
set_option backward.isDefEq.respectTransparency.types false in
/-- Every run terminates, with every array as the proof data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every run terminates, the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.KBits.lean ====
/- The printed kernel's frame: the ideal kernel is the same program, operation by operation, so its frame is the printed kernel's. -/
module

public import proofs.«01_k».proof.Proof.KFrame
public import proofs.«01_k».proof.Proof.Gen.Kernel

@[expose] public section

set_option maxRecDepth 16384

noncomputable section

namespace Cert.Kernel.Hand

open Cert.Kernel
open Idealize.ShloMosaic Idealize.ShloMosaic.TcCoe Idealize.SL.Sem

variable {F : FTy → Type} [FloatOps F]
variable (m : (ℓ : Loc nD τ sig) → Buf (Elt F) ℓ) (ρ : Dev nD → PrngReg)

/-- The two programs have the same body table, -/
theorem defs₀_eq : (defs₀ (F := F)) = Cert.KernelIdeal.defs₀ (F := F) := by
  unfold defs₀ Cert.KernelIdeal.defs₀
  refine congrArg Defs.onTc ?_
  funext l s
  match l, s with
  | 0, (t, s) => rfl

/-- the same table of calls, -/
theorem defs_eq : (defs (F := F)) = Cert.KernelIdeal.defs (F := F) := by
  unfold defs Cert.KernelIdeal.defs
  exact congrArg (Pipeline.defs (pcfgs (F := F))) defs₀_eq

/-- and the same main function. -/
theorem main_eq : (main (F := F)) = Cert.KernelIdeal.main (F := F) := rfl

/-- The frame: every run terminates, the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq, main_eq]
  exact Cert.KernelIdeal.Hand.frame m ρ

end Cert.Kernel.Hand

end
-- ==== Proof.Quant.lean ====
/- The quantised linear layer over the extended reals, one row at a time: the row's scale and codes, and why a sum of products of codes and
   8-bit weights is one and the same 32-bit word however the row is cut into blocks. -/
module

public import Idealize.ShloMosaic.Lib.Pointwise

@[expose] public section

set_option maxRecDepth 16384

noncomputable section

namespace Cert.Hand

open Idealize.ShloMosaic

/-! ## One row's scale and codes -/

/-- The greatest magnitude in a row. -/
def rowMax (f : Fin 7168 → EReal) : EReal :=
  Finset.fold max (Ideal.ofBits .f32 4286578688#32) (fun k => FloatOps.absf (F := Ideal) (φ := .f32) (f k)) Finset.univ

/-- The row's scale: 1 for a row of zeros, else the greatest magnitude over 127. -/
def rowScale (f : Fin 7168 → EReal) : EReal :=
  if rowMax f = 0 then 1 else Ideal.div (rowMax f) (Ideal.ofBits .f32 1123942400#32)

/-- An element's code before the conversion to an integer: the element over the scale, rounded and clipped. -/
def rowQ (f : Fin 7168 → EReal) (k : Fin 7168) : EReal :=
  min (Ideal.ofBits .f32 1123942400#32) (max (Ideal.ofBits .f32 3271426048#32)
    (Ideal.liftRound Ideal.roundHalfEven (Ideal.div (f k) (rowScale f))))

/-- An element's code: the 8-bit integer. -/
def rowCode (f : Fin 7168 → EReal) (k : Fin 7168) : BitVec 8 := Ideal.fptosi 8 (rowQ f k)

/-- One element of the product: the codes times a column of weights, summed as a 32-bit word, times the row's scale, times the column's. -/
def rowY (f : Fin 7168 → EReal) (w : Fin 7168 → BitVec 8) (b : EReal) : EReal :=
  (((BitVec.ofInt 32 (∑ k, (rowCode f k).toInt * (w k).toInt)).toInt : ℝ) : EReal) * rowScale f * b

/-! ## Integers among the extended reals -/

/-- The upper clipping bound is 127, -/
theorem c127 : Ideal.ofBits .f32 1123942400#32 = (((127 : ℤ) : ℝ) : EReal) := by
  simp [Ideal.ofBits, Ideal.ieee, -EReal.coe_mul]; norm_num

/-- the lower one −127. -/
theorem cm127 : Ideal.ofBits .f32 3271426048#32 = (((-127 : ℤ) : ℝ) : EReal) := by
  simp [Ideal.ofBits, Ideal.ieee, -EReal.coe_mul]; norm_num

/-- A rounded number clipped to [−127, 127] is an integer of that range (an infinity is clipped to its end). -/
theorem clip_int (g : ℝ → ℤ) (x : EReal) : ∃ z : ℤ, -127 ≤ z ∧ z ≤ 127 ∧
    min (((127 : ℤ) : ℝ) : EReal) (max (((-127 : ℤ) : ℝ) : EReal) (Ideal.liftRound g x)) = ((z : ℝ) : EReal) := by
  induction x using EReal.rec with
  | bot => exact ⟨-127, by norm_num, by norm_num, by
      rw [Ideal.liftRound_bot, max_eq_left bot_le, min_eq_right (by exact_mod_cast (by norm_num : (-127 : ℝ) ≤ 127))]⟩
  | top => exact ⟨127, by norm_num, by norm_num, by
      rw [Ideal.liftRound_top, max_eq_right le_top, min_eq_left le_top]⟩
  | coe r =>
    refine ⟨min 127 (max (-127) (g r)), by omega, by omega, ?_⟩
    rw [Ideal.liftRound_coe, Int.cast_min, Int.cast_max, EReal.coe_strictMono.monotone.map_min, EReal.coe_strictMono.monotone.map_max]

/-- The conversion of an integer in range is that integer. -/
theorem fptosi_int (w : ℕ) (z : ℤ) (h1 : -((2 ^ (w - 1) : ℕ) : ℤ) ≤ z) (h2 : z ≤ ((2 ^ (w - 1) : ℕ) : ℤ) - 1) :
    Ideal.fptosi w ((z : ℝ) : EReal) = BitVec.ofInt w z := by
  unfold Ideal.fptosi
  rw [Ideal.toIntClamped_coe, Int.floor_intCast, Int.ceil_intCast, ite_self, min_eq_right h2, max_eq_right h1]

/-- Rounding leaves an integer as it is. -/
theorem round_int (z : ℤ) : Ideal.liftRound Ideal.roundHalfEven ((z : ℝ) : EReal) = ((z : ℝ) : EReal) := by
  rw [Ideal.liftRound_coe]
  unfold Ideal.roundHalfEven
  simp

/-- A code is the integer it was converted from. -/
theorem rowQ_eq (f : Fin 7168 → EReal) (k : Fin 7168) : rowQ f k = (((rowCode f k).toInt : ℝ) : EReal) := by
  unfold rowCode rowQ
  rw [c127, cm127]
  obtain ⟨z, h1, h2, h⟩ := clip_int Ideal.roundHalfEven (Ideal.div (f k) (rowScale f))
  rw [h, fptosi_int 8 z (by norm_num; omega) (by norm_num; omega), BitVec.toInt_ofInt, Int.bmod_eq_of_le (by norm_num; omega) (by norm_num; omega)]

/-! ## Sums of products of 8-bit integers -/

/-- A sum of products of integers, computed over the extended reals, is the integers' sum. -/
theorem dot_int {n : ℕ} (a b : Fin n → ℤ) :
    ∑ k, ((a k : ℝ) : EReal) * ((b k : ℝ) : EReal) = (((∑ k, a k * b k : ℤ) : ℝ) : EReal) := by
  have h : ∀ S : Finset (Fin n), ∑ k ∈ S, ((a k : ℝ) : EReal) * ((b k : ℝ) : EReal) = (((∑ k ∈ S, a k * b k : ℤ) : ℝ) : EReal) := by
    intro S
    induction S using Finset.cons_induction with
    | empty => simp
    | cons x S hx ih => rw [Finset.sum_cons, Finset.sum_cons, ih, Int.cast_add, Int.cast_mul, EReal.coe_add, EReal.coe_mul]
  exact h Finset.univ

/-- Two 8-bit integers' product is at most 2¹⁴ in magnitude. -/
theorem mul_i8_bound (a b : BitVec 8) : -16384 ≤ a.toInt * b.toInt ∧ a.toInt * b.toInt ≤ 16384 := by
  have ha1 := BitVec.toInt_lt (x := a)
  have ha2 := BitVec.le_toInt (x := a)
  have hb1 := BitVec.toInt_lt (x := b)
  have hb2 := BitVec.le_toInt (x := b)
  norm_num at ha1 ha2 hb1 hb2
  constructor <;> nlinarith

/-- At most 1024 such products total less than 2³¹ in magnitude. -/
theorem dot_bound {n : ℕ} (hn : n ≤ 1024) (a b : Fin n → BitVec 8) :
    -16777216 ≤ ∑ k, (a k).toInt * (b k).toInt ∧ ∑ k, (a k).toInt * (b k).toInt ≤ 16777216 := by
  have h1 : ∑ k : Fin n, (-16384 : ℤ) ≤ ∑ k, (a k).toInt * (b k).toInt := Finset.sum_le_sum fun k _ => (mul_i8_bound _ _).1
  have h2 : ∑ k, (a k).toInt * (b k).toInt ≤ ∑ k : Fin n, (16384 : ℤ) := Finset.sum_le_sum fun k _ => (mul_i8_bound _ _).2
  simp at h1 h2
  have : (n : ℤ) ≤ 1024 := by exact_mod_cast hn
  omega

/-- A block's sum of products converted to 32 bits is the word of the integers' sum, -/
theorem word_dot {n : ℕ} (hn : n ≤ 1024) (a b : Fin n → BitVec 8) :
    Ideal.fptosi 32 (∑ k, (((a k).toInt : ℝ) : EReal) * (((b k).toInt : ℝ) : EReal)) = BitVec.ofInt 32 (∑ k, (a k).toInt * (b k).toInt) := by
  obtain ⟨h1, h2⟩ := dot_bound hn a b
  rw [dot_int, fptosi_int 32 _ (by norm_num; omega) (by norm_num; omega)]

/-- also where it is rounded first. -/
theorem word_dot_round {n : ℕ} (hn : n ≤ 1024) (a b : Fin n → BitVec 8) :
    Ideal.fptosi 32 (Ideal.liftRound Ideal.roundHalfEven (∑ k, (((a k).toInt : ℝ) : EReal) * (((b k).toInt : ℝ) : EReal)))
      = BitVec.ofInt 32 (∑ k, (a k).toInt * (b k).toInt) := by
  rw [dot_int, round_int, ← dot_int, word_dot hn]

/-! ## The blocks' words add up to the row's word -/

/-- Words of integers add up to the word of their sum. -/
theorem fold_ofInt {ι : Type} (S : Finset ι) (g : ι → ℤ) :
    S.fold IntOp.addi 0#32 (fun k => BitVec.ofInt 32 (g k)) = BitVec.ofInt 32 (∑ k ∈ S, g k) := by
  classical
  induction S using Finset.cons_induction with
  | empty => simp
  | cons x S hx ih => rw [Finset.fold_cons, ih, Finset.sum_cons, BitVec.ofInt_add]; rfl

/-- A row's sum is the sum of its blocks' sums. -/
theorem sum_blocks (A B : ℕ) (g : ℕ → ℤ) : ∑ x : Fin A, ∑ y : Fin B, g (x.val * B + y.val) = ∑ k : Fin (A * B), g k.val := by
  rw [← Fintype.sum_prod_type', ← Equiv.sum_comp finProdFinEquiv (fun k => g k.val)]
  refine Finset.sum_congr rfl fun p _ => ?_
  rw [finProdFinEquiv_apply_val, add_comm, mul_comm]

/-- A function of the row's positions, on all numbers. -/
def ext (g : Fin 7168 → ℤ) (n : ℕ) : ℤ := if h : n < 7168 then g ⟨n, h⟩ else 0

/-- Inside the range the extension is the function itself. -/
theorem ext_eq (g : Fin 7168 → ℤ) (n : ℕ) (h : n < 7168) : g ⟨n, h⟩ = ext g n := by unfold ext; rw [dif_pos h]

/-- Fourteen blocks of 512: their words total the row's. -/
theorem blocks14 (g : Fin 7168 → ℤ) (h : ∀ (x : Fin 14) (y : Fin 512), x.val * 512 + y.val < 7168) :
    Finset.univ.fold IntOp.addi 0#32 (fun x : Fin 14 => BitVec.ofInt 32 (∑ y : Fin 512, g ⟨x.val * 512 + y.val, h x y⟩))
      = BitVec.ofInt 32 (∑ k, g k) := by
  rw [fold_ofInt]
  simp only [ext_eq]
  rw [sum_blocks 14 512 (ext g)]

/-- The sum over one of seven blocks of 1024. -/
def blk7 (g : Fin 7168 → ℤ) (o : ℕ) (ho : o + 1024 ≤ 7168) : ℤ := ∑ y : Fin 1024, g ⟨o + y.val, by omega⟩

/-- Seven blocks of 1024: their words, added one after another, total the row's. -/
theorem blocks7 (g : Fin 7168 → ℤ) :
    BitVec.ofInt 32 (blk7 g 0 (by decide)) + BitVec.ofInt 32 (blk7 g 1024 (by decide)) + BitVec.ofInt 32 (blk7 g 2048 (by decide))
      + BitVec.ofInt 32 (blk7 g 3072 (by decide)) + BitVec.ofInt 32 (blk7 g 4096 (by decide)) + BitVec.ofInt 32 (blk7 g 5120 (by decide))
      + BitVec.ofInt 32 (blk7 g 6144 (by decide)) = BitVec.ofInt 32 (∑ k, g k) := by
  have e : ∑ k, g k = ∑ x : Fin 7, ∑ y : Fin 1024, ext g (x.val * 1024 + y.val) := by
    rw [sum_blocks 7 1024 (ext g)]
    exact Finset.sum_congr rfl fun k _ => ext_eq g k.val k.isLt
  rw [e, Fin.sum_univ_seven]
  simp only [← BitVec.ofInt_add]
  unfold blk7
  simp only [ext_eq]
  rfl

end Cert.Hand

end
-- ==== Proof.KPay.lean ====
/- What the ideal kernel's body computes, at an index: a row's scale and codes, and one element of the product. -/
module

public import proofs.«01_k».proof.Proof.Quant
public import proofs.«01_k».proof.Proof.KCanon

@[expose] public section

set_option maxRecDepth 16384

noncomputable section

namespace Cert.KernelIdeal.Hand

open Idealize.ShloMosaic Cert.Hand
open Cert.KernelIdeal Cert.KernelIdeal.Gen

variable (x : Vec Ideal S1x256x7168 .bf16) (s : Vec Ideal S1x7168 .f32)

/-- Row `r` of the activations times the smoothing factors. -/
abbrev row (r : Fin 256) : Fin 7168 → EReal := fun k => x (ix3 (0 : Fin 1) r k) * s (ix2 (0 : Fin 1) k)

/-- A strip's scale. -/
theorem pay3_apply (v : Vec Ideal S1x32x7168 .bf16) (r : Fin 32) (o : Fin 1) :
    k0_pay3 v s (ix2 r o) = rowScale (fun k => v (ix3 (0 : Fin 1) r k) * s (ix2 (0 : Fin 1) k)) := by
  pointwise [k0_pay3, k0_pay2]
  rfl

/-- A strip's codes before their conversion. -/
theorem pay4_apply (v : Vec Ideal S1x32x7168 .bf16) (r : Fin 32) (k : Fin 7168) :
    k0_pay4 v s (ix2 r k) = rowQ (fun k => v (ix3 (0 : Fin 1) r k) * s (ix2 (0 : Fin 1) k)) k := by
  pointwise [k0_pay4, k0_pay2]
  rw [pay3_apply]
  rfl

/-- The strip's 8-bit codes at an element. -/
theorem pay5_apply (v : Vec Ideal S1x32x7168 .bf16) (o : Fin 1) (r : Fin 32) (k : Fin 7168) :
    k0_pay5 v s (ix3 o r k) = rowCode (fun k => v (ix3 (0 : Fin 1) r k) * s (ix2 (0 : Fin 1) k)) k := by
  pointwise [k0_pay5]
  rw [pay4_apply]
  rfl

/-- The strip's codes as floats at an element. -/
theorem pay6_apply (v : Vec Ideal S1x32x7168 .bf16) (r : Fin 32) (k : Fin 7168) :
    k0_pay6 v s (ix2 r k) = rowQ (fun k => v (ix3 (0 : Fin 1) r k) * s (ix2 (0 : Fin 1) k)) k := by
  pointwise [k0_pay6]
  exact pay4_apply s v r k

/-- The strip's scales at an element: every lane holds the row's scale. -/
theorem pay7_apply (v : Vec Ideal S1x32x7168 .bf16) (r : Fin 32) (l : Fin 128) :
    k0_pay7 v s (ix2 r l) = rowScale (fun k => v (ix3 (0 : Fin 1) r k) * s (ix2 (0 : Fin 1) k)) := by
  pointwise [k0_pay7]
  exact pay3_apply s v r 0

/-- A strip's row is the array's. -/
theorem strip_row (r : Fin 256) (hb : 32 * (r.val / 32) + 32 ≤ 256) :
    (fun k : Fin 7168 => strip x (r.val / 32) hb (ix3 (0 : Fin 1) (⟨r.val % 32, Nat.mod_lt _ (by decide)⟩ : Fin 32) k) * s (ix2 (0 : Fin 1) k)) = row x s r := by
  funext k
  show x _ * _ = x _ * _
  congr 2
  congr 1
  apply Fin.ext
  show 32 * (r.val / 32) + r.val % 32 = r.val
  omega

/-- The codes in the scratch are the rows' codes, as numbers. -/
theorem QX_apply (r : Fin 256) (k : Fin 7168) : QX x s (ix2 r k) = (((rowCode (row x s r) k).toInt : ℝ) : EReal) := by
  rw [← rowQ_eq]
  unfold QX
  refine (pay6_apply s _ _ _).trans ?_
  exact congrArg (fun f => rowQ f k) (strip_row x s r _)

/-- The codes in the second result's buffer are the rows' codes. -/
theorem CX_apply (o : Fin 1) (r : Fin 256) (k : Fin 7168) : CX x s (ix3 o r k) = rowCode (row x s r) k := by
  unfold CX
  refine (pay5_apply s _ _ _ _).trans ?_
  exact congrArg (fun f => rowCode f k) (strip_row x s r _)

/-- The scales in the scratch are the rows' scales. -/
theorem SX_apply (r : Fin 256) (l : Fin 128) : SX x s (ix2 r l) = rowScale (row x s r) := by
  unfold SX
  refine (pay7_apply s _ _ _).trans ?_
  exact congrArg rowScale (strip_row x s r _)

/-- The scales in the third result's buffer are the rows' scales. -/
theorem TX_apply (o : Fin 1) (r : Fin 256) : TX x s (ix2 o r) = rowScale (row x s r) := by
  unfold TX
  rw [← SX_apply x s r 0]
  pointwise [k0_pay58]

end Cert.KernelIdeal.Hand

end
-- ==== Proof.KProd.lean ====
/- One element of the product, as the ideal kernel's body computes it. -/
module

public import proofs.«01_k».proof.Proof.Quant
public import proofs.«01_k».proof.Proof.KPay
public import Idealize.ShloMosaic.Lib.Pipeline.ValueKit.Tiles

@[expose] public section

set_option maxRecDepth 16384

noncomputable section

namespace Cert.KernelIdeal.Hand

open Idealize.ShloMosaic Cert.Hand
open Cert.KernelIdeal Cert.KernelIdeal.Gen

/-- The word one block of 1024 columns contributes to an element of the product. -/
abbrev mm (q : Vec Ideal S256x1024 .bf16) (w : Vec Ideal S1024x512 .i8) (r : Fin 256) (l : Fin 512) : BitVec 32 :=
  FloatOps.fptosi (F := Ideal) (φ := .f32) 32 (Ideal.liftRound Ideal.roundHalfEven (∑ k : Fin 1024, q (ix2 r k) * FloatOps.sitofp (F := Ideal) .bf16 (w (ix2 k l))))

/-- The sum over the first four blocks, at an element. -/
theorem pay59_apply (q0 q1 q2 q3 : Vec Ideal S256x1024 .bf16) (w0 w1 w2 w3 : Vec Ideal S1024x512 .i8) (r : Fin 256) (l : Fin 512) :
    k0_pay59 q0 w0 q1 w1 q2 w2 q3 w3 (ix2 r l) = mm q0 w0 r l + mm q1 w1 r l + mm q2 w2 r l + mm q3 w3 r l := by
  pointwise [k0_pay59]
  show (0#32 : BitVec 32) + mm q0 w0 r l + mm q1 w1 r l + mm q2 w2 r l + mm q3 w3 r l = _
  rw [BitVec.zero_add]

/-- The product at an element: the remaining three blocks added, the total scaled by the row's and the column's scale. -/
theorem pay1_apply (a : IVec S256x512 32) (q4 q5 q6 : Vec Ideal S256x1024 .bf16) (w4 w5 w6 : Vec Ideal S1024x512 .i8) (sc : Vec Ideal S256x1 .f32)
    (ws : Vec Ideal S1x512 .f32) (o : Fin 1) (r : Fin 256) (l : Fin 512) :
    k0_pay1 a q4 w4 q5 w5 q6 w6 sc ws (ix3 o r l)
      = FloatOps.sitofp (F := Ideal) .f32 (a (ix2 r l) + mm q4 w4 r l + mm q5 w5 r l + mm q6 w6 r l) * sc (ix2 r (0 : Fin 1)) * ws (ix2 (0 : Fin 1) l) := by
  pointwise [k0_pay1]
  rfl

variable (x : Vec Ideal S1x256x7168 .bf16) (s : Vec Ideal S1x7168 .f32)

/-- The integer product of the row's code and the column's weight at a column of the activations. -/
def term (w : Vec Ideal S7168x512 .i8) (r : Fin 256) (l : Fin 512) (k : Fin 7168) : ℤ :=
  (rowCode (row x s r) k).toInt * (w (ix2 k l)).toInt

/-- The word of the block that starts at column `o` is the integer dot product over those 1024 columns. -/
theorem mm_block (w : Vec Ideal S7168x512 .i8) (r : Fin 256) (l : Fin 512) (o : ℕ) (ho : o + 1024 ≤ 7168)
    (h₁ : ∀ a, (![0, o] : Fin 2 → ℕ) a + (![256, 1024] : Fin 2 → ℕ) a ≤ S256x7168.size a)
    (h₂ : ∀ a, (![o, 0] : Fin 2 → ℕ) a + (![1024, 512] : Fin 2 → ℕ) a ≤ S7168x512.size a) :
    mm (View.ld (QX x s) (Rect.unit ![0, o] ![256, 1024] h₁)) (View.ld w (Rect.unit ![o, 0] ![1024, 512] h₂)) r l
      = BitVec.ofInt 32 (blk7 (term x s w r l) o ho) := by
  refine Eq.trans ?_ (word_dot_round (le_refl 1024) (fun y : Fin 1024 => rowCode (row x s r) ⟨o + y.val, by omega⟩)
    (fun y : Fin 1024 => w (ix2 (⟨o + y.val, by omega⟩ : Fin 7168) l)))
  refine congrArg (fun z => Ideal.fptosi 32 (Ideal.liftRound Ideal.roundHalfEven z)) (Finset.sum_congr rfl fun y _ => ?_)
  have e₁ : View.ld (QX x s) (Rect.unit ![0, o] ![256, 1024] h₁) (ix2 r y) = QX x s (ix2 r (⟨o + y.val, by omega⟩ : Fin 7168)) := by
    rw [View.ld_apply]
    refine congrArg (QX x s) (funext fun a => Fin.ext ?_)
    rw [Rect.idx_unit_val]
    match a with
    | ⟨0, _⟩ => exact Nat.zero_add _
    | ⟨1, _⟩ => rfl
  have e₂ : View.ld w (Rect.unit ![o, 0] ![1024, 512] h₂) (ix2 y l) = w (ix2 (⟨o + y.val, by omega⟩ : Fin 7168) l) := by
    rw [View.ld_apply]
    refine congrArg w (funext fun a => Fin.ext ?_)
    rw [Rect.idx_unit_val]
    match a with
    | ⟨0, _⟩ => rfl
    | ⟨1, _⟩ => exact Nat.zero_add _
  rw [e₁, e₂, QX_apply]
  rfl

/-- An element of a block of the product is the row's dot product with the block's column, scaled. -/
theorem YX_apply (w : Vec Ideal S7168x512 .i8) (b : Vec Ideal S1x512 .f32) (o : Fin 1) (r : Fin 256) (l : Fin 512) :
    YX (QX x s) (SX x s) w b (ix3 o r l) = rowY (row x s r) (fun k => w (ix2 k l)) (b (ix2 (0 : Fin 1) l)) := by
  have e : View.ld (SX x s) (Rect.unit ![0, 0] ![256, 1] inb_S256x128_S256x1_0_0) (ix2 r (0 : Fin 1)) = rowScale (row x s r) := by
    rw [View.ld_apply, ← SX_apply x s r (0 : Fin 128)]
    refine congrArg (SX x s) (funext fun a => Fin.ext ?_)
    rw [Rect.idx_unit_val]
    match a with
    | ⟨0, _⟩ => exact Nat.zero_add _
    | ⟨1, _⟩ => rfl
  unfold YX
  rw [pay1_apply, pay59_apply, e]
  rw [mm_block x s w r l 0 (by decide), mm_block x s w r l 1024 (by decide), mm_block x s w r l 2048 (by decide),
    mm_block x s w r l 3072 (by decide), mm_block x s w r l 4096 (by decide), mm_block x s w r l 5120 (by decide),
    mm_block x s w r l 6144 (by decide), blocks7]
  rfl

end Cert.KernelIdeal.Hand

end
-- ==== Proof.KValue.lean ====
/- The ideal kernel's three result arrays after the run, as functions of the argument arrays. -/
module

public import proofs.«01_k».proof.Proof.KFrame
public import proofs.«01_k».proof.Proof.KProd
public import Idealize.ShloMosaic.Lib.Pipeline.ValueKit.Geometry

@[expose] public section

set_option maxRecDepth 16384

noncomputable section

namespace Cert.KernelIdeal.Hand

open Cert.Hand Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## The block indices, decided over the grid -/

/-- The activations have one block. -/
theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)
/-- The smoothing factors have one block. -/
theorem idx1 : ∀ t : Fin cfg0.N, win0_1.index t (0 : Fin 2) = 0 ∧ win0_1.index t (1 : Fin 2) = 0 :=
  (by decide +kernel : ∀ t : Fin grid0.N, _)
/-- Point `t` takes block `t` of the columns of the weights. -/
theorem idx2 : ∀ t : Fin cfg0.N, win0_2.index t (0 : Fin 2) = 0 ∧ win0_2.index t (1 : Fin 2) = t.val :=
  (by decide +kernel : ∀ t : Fin grid0.N, _)
/-- Point `t` takes block `t` of the column scales. -/
theorem idx3 : ∀ t : Fin cfg0.N, win0_3.index t (0 : Fin 2) = 0 ∧ win0_3.index t (1 : Fin 2) = t.val :=
  (by decide +kernel : ∀ t : Fin grid0.N, _)
/-- Point `t` writes block `t` of the columns of the product. -/
theorem idx4 : ∀ t : Fin cfg0.N, win0_4.index t (0 : Fin 3) = 0 ∧ win0_4.index t (1 : Fin 3) = 0 ∧ win0_4.index t (2 : Fin 3) = t.val :=
  (by decide +kernel : ∀ t : Fin grid0.N, _)
/-- The codes have one block. -/
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
/-- The scales have one block. -/
theorem idx6 : ∀ t : Fin cfg0.N, win0_6.index t (0 : Fin 2) = 0 ∧ win0_6.index t (1 : Fin 2) = 0 :=
  (by decide +kernel : ∀ t : Fin grid0.N, _)

/-! ## What the region finds in the reshaped arguments -/

/-- A leading axis of length one is dropped in reading. -/
theorem cast_x (v : Vec Ideal S7168 .f32) (k : Fin 7168) : shapeCast S1x7168 v shapeCasts_S7168_S1x7168 (ix2 (0 : Fin 1) k) = v (ix1 k) := by
  pointwise
/-- The same for the column scales. -/
theorem cast_w (v : Vec Ideal S18432 .f32) (k : Fin 18432) : shapeCast S1x18432 v shapeCasts_S18432_S1x18432 (ix2 (0 : Fin 1) k) = v (ix1 k) := by
  pointwise

/-- The reshaped smoothing factors, read at a column. -/
theorem V_main_v0 (c : Dev nD) (k : Fin 7168) : V m c main_v0 (ix2 (0 : Fin 1) k) = m ((c : Thread nD τ).loc main_arg1) (ix1 k) := by
  have e : V m c main_v0 = shapeCast S1x7168 (m ((c : Thread nD τ).loc main_arg1)) shapeCasts_S7168_S1x7168 := by
    show StableHlo.after hostOps0 _ (Proc.devRef .tc main_v0) = _
    after_results
    rfl
  exact (congrFun e _).trans (cast_x _ k)

/-- The reshaped column scales, read at a column. -/
theorem V_main_v1 (c : Dev nD) (k : Fin 18432) : V m c main_v1 (ix2 (0 : Fin 1) k) = m ((c : Thread nD τ).loc main_arg3) (ix1 k) := by
  have e : V m c main_v1 = shapeCast S1x18432 (m ((c : Thread nD τ).loc main_arg3)) shapeCasts_S18432_S1x18432 := by
    show StableHlo.after hostOps0 _ (Proc.devRef .tc main_v1) = _
    after_results
    rfl
  exact (congrFun e _).trans (cast_w _ k)

/-! ## The blocks, in terms of the argument arrays -/

/-- The activations' block is the whole array. -/
theorem X0_apply (c : Dev nD) (o : Fin 1) (r : Fin 256) (k : Fin 7168) :
    X0 m c (ix3 o r k) = m ((c : Thread nD τ).loc main_arg0) (ix3 o r k) := by
  show V m c main_arg0 (((cfg0.win 0).blk t0).view.emb (ix3 o r k)) = _
  rw [V_main_arg0]
  obtain ⟨e0, e1, e2⟩ := idx0 t0
  refine congrArg (m ((c : Thread nD τ).loc main_arg0)) (funext fun a => Fin.ext ?_)
  match a with
  | ⟨0, _⟩ => show win0_0.index t0 (0 : Fin 3) * 1 + 1 * o.val = o.val; omega
  | ⟨1, _⟩ => show win0_0.index t0 (1 : Fin 3) * 256 + 1 * r.val = r.val; omega
  | ⟨2, _⟩ => show win0_0.index t0 (2 : Fin 3) * 7168 + 1 * k.val = k.val; omega

/-- The smoothing factors' block is the whole vector. -/
theorem X1_apply (c : Dev nD) (k : Fin 7168) : X1 m c (ix2 (0 : Fin 1) k) = m ((c : Thread nD τ).loc main_arg1) (ix1 k) := by
  refine Eq.trans ?_ (V_main_v0 m c k)
  show V m c main_v0 (((cfg0.win 1).blk t0).view.emb (ix2 (0 : Fin 1) k)) = _
  obtain ⟨e0, e1⟩ := idx1 t0
  refine congrArg (V m c main_v0) (funext fun a => Fin.ext ?_)
  match a with
  | ⟨0, _⟩ => show win0_1.index t0 (0 : Fin 2) * 1 + 1 * 0 = 0; omega
  | ⟨1, _⟩ => show win0_1.index t0 (1 : Fin 2) * 7168 + 1 * k.val = k.val; omega

/-- Column `l` of block `t`, among all columns. -/
def col (t : Fin cfg0.N) (l : Fin 512) : Fin 18432 := ⟨t.val * 512 + l.val, by have h : t.val < 36 := lt_of_lt_of_eq t.isLt N_0; omega⟩

/-- The weights' block at point `t` is 512 columns of the weights. -/
theorem blk2_apply (c : Dev nD) (t : Fin cfg0.N) (k : Fin 7168) (l : Fin 512) :
    iblk m c 2 t (ix2 k l) = m ((c : Thread nD τ).loc main_arg2) (ix2 k (col t l)) := by
  show V m c main_arg2 (((cfg0.win 2).blk t).view.emb (ix2 k l)) = _
  rw [V_main_arg2]
  obtain ⟨e0, e1⟩ := idx2 t
  refine congrArg (m ((c : Thread nD τ).loc main_arg2)) (funext fun a => Fin.ext ?_)
  match a with
  | ⟨0, _⟩ => show win0_2.index t (0 : Fin 2) * 7168 + 1 * k.val = k.val; omega
  | ⟨1, _⟩ => show win0_2.index t (1 : Fin 2) * 512 + 1 * l.val = t.val * 512 + l.val; omega

/-- The column scales' block at point `t` is 512 of the column scales. -/
theorem blk3_apply (c : Dev nD) (t : Fin cfg0.N) (l : Fin 512) :
    iblk m c 3 t (ix2 (0 : Fin 1) l) = m ((c : Thread nD τ).loc main_arg3) (ix1 (col t l)) := by
  refine Eq.trans ?_ (V_main_v1 m c (col t l))
  show V m c main_v1 (((cfg0.win 3).blk t).view.emb (ix2 (0 : Fin 1) l)) = _
  obtain ⟨e0, e1⟩ := idx3 t
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 512 + 1 * l.val = t.val * 512 + l.val; omega

/-! ## The three results as functions of the arguments -/

/-- A row of the activations times the smoothing factors. -/
def rowA (a0 : Vec Ideal S1x256x7168 .bf16) (a1 : Vec Ideal S7168 .f32) (r : Fin 256) : Fin 7168 → EReal :=
  fun k => a0 (ix3 (0 : Fin 1) r k) * a1 (ix1 k)

/-- The product: each row's codes against each column of the weights, scaled. -/
def GY (a0 : Vec Ideal S1x256x7168 .bf16) (a1 : Vec Ideal S7168 .f32) (a2 : Vec Ideal S7168x18432 .i8) (a3 : Vec Ideal S18432 .f32) :
    Vec Ideal S1x256x18432 .bf16 :=
  fun i => rowY (rowA a0 a1 (i 1)) (fun k => a2 (ix2 k (i 2))) (a3 (ix1 (i 2)))

/-- The codes of every row. -/
def GC (a0 : Vec Ideal S1x256x7168 .bf16) (a1 : Vec Ideal S7168 .f32) : Vec Ideal S1x256x7168 .i8 :=
  fun i => rowCode (rowA a0 a1 (i 1)) (i 2)

/-- The scale of every row. -/
def GT (a0 : Vec Ideal S1x256x7168 .bf16) (a1 : Vec Ideal S7168 .f32) : Vec Ideal S1x256 .f32 :=
  fun i => rowScale (rowA a0 a1 (i 1))

/-- The staged row is the arguments' row. -/
theorem row_eq (c : Dev nD) (r : Fin 256) :
    row (X0 m c) (X1 m c) r = rowA (m ((c : Thread nD τ).loc main_arg0)) (m ((c : Thread nD τ).loc main_arg1)) r := by
  funext k
  unfold row rowA
  rw [X0_apply, X1_apply]

/-- What a point leaves in the first result's buffer is its block of the product. -/
theorem point4 (c : Dev nD) (t : Fin cfg0.N) (y : S1x256x512.Idx) :
    YB m c t y = GY (m ((c : Thread nD τ).loc main_arg0)) (m ((c : Thread nD τ).loc main_arg1)) (m ((c : Thread nD τ).loc main_arg2))
      (m ((c : Thread nD τ).loc main_arg3)) (((cfg0.win 4).blk t).view.emb y) := by
  idx_vars y
  obtain ⟨e0, e1, e2⟩ := idx4 t
  have h1 : ((cfg0.win 4).blk t).view.emb (ix3 y0 y1 y2) 1 = y1 :=
    Fin.ext (show win0_4.index t (1 : Fin 3) * 256 + 1 * y1.val = y1.val by omega)
  have h2 : ((cfg0.win 4).blk t).view.emb (ix3 y0 y1 y2) 2 = col t y2 :=
    Fin.ext (show win0_4.index t (2 : Fin 3) * 512 + 1 * y2.val = t.val * 512 + y2.val by omega)
  refine (YX_apply (X0 m c) (X1 m c) _ _ _ _ _).trans ?_
  show _ = rowY (rowA _ _ (((cfg0.win 4).blk t).view.emb (ix3 y0 y1 y2) 1))
    (fun k => m ((c : Thread nD τ).loc main_arg2) (ix2 k (((cfg0.win 4).blk t).view.emb (ix3 y0 y1 y2) 2)))
    (m ((c : Thread nD τ).loc main_arg3) (ix1 (((cfg0.win 4).blk t).view.emb (ix3 y0 y1 y2) 2)))
  rw [h1, h2, row_eq, blk3_apply]
  exact congrArg (fun w => rowY _ w _) (funext fun k => blk2_apply m c t k y2)

/-- What a point leaves in the second result's buffer is the codes. -/
theorem point5 (c : Dev nD) (t : Fin cfg0.N) (y : S1x256x7168.Idx) :
    CB m c y = GC (m ((c : Thread nD τ).loc main_arg0)) (m ((c : Thread nD τ).loc main_arg1)) (((cfg0.win 5).blk t).view.emb y) := by
  idx_vars y
  obtain ⟨e0, e1, e2⟩ := idx5 t
  have h1 : ((cfg0.win 5).blk t).view.emb (ix3 y0 y1 y2) 1 = y1 :=
    Fin.ext (show win0_5.index t (1 : Fin 3) * 256 + 1 * y1.val = y1.val by omega)
  have h2 : ((cfg0.win 5).blk t).view.emb (ix3 y0 y1 y2) 2 = y2 :=
    Fin.ext (show win0_5.index t (2 : Fin 3) * 7168 + 1 * y2.val = y2.val by omega)
  refine (CX_apply (X0 m c) (X1 m c) _ _ _).trans ?_
  show _ = rowCode (rowA _ _ (((cfg0.win 5).blk t).view.emb (ix3 y0 y1 y2) 1)) (((cfg0.win 5).blk t).view.emb (ix3 y0 y1 y2) 2)
  rw [h1, h2, row_eq]

/-- What a point leaves in the third result's buffer is the scales. -/
theorem point6 (c : Dev nD) (t : Fin cfg0.N) (y : S1x256.Idx) :
    TB m c y = GT (m ((c : Thread nD τ).loc main_arg0)) (m ((c : Thread nD τ).loc main_arg1)) (((cfg0.win 6).blk t).view.emb y) := by
  idx_vars y
  obtain ⟨e0, e1⟩ := idx6 t
  have h1 : ((cfg0.win 6).blk t).view.emb (ix2 y0 y1) 1 = y1 :=
    Fin.ext (show win0_6.index t (1 : Fin 2) * 256 + 1 * y1.val = y1.val by omega)
  refine (TX_apply (X0 m c) (X1 m c) _ _).trans ?_
  show _ = rowScale (rowA _ _ (((cfg0.win 6).blk t).view.emb (ix2 y0 y1) 1))
  rw [h1, row_eq]

/-! ## The arrays after the run -/

/-- The first result after the run is the product of the arguments. -/
theorem final4 (c : Dev nD) : (dats m 0 c).arrAt 4 cfg0.N = GY (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  show (dats m 0 c).after 4 t y = _
  rw [after0_4]
  exact point4 m c t y

/-- The second result after the run is the codes of the arguments. -/
theorem final5 (c : Dev nD) : (dats m 0 c).arrAt 5 cfg0.N = GC (m ((c : Thread nD τ).loc main_arg0)) (m ((c : Thread nD τ).loc main_arg1)) := by
  refine (dats m 0 c).arrAt_eq_of_covers 5 _ (by decide +kernel) fun t hf y => ?_
  show (dats m 0 c).after 5 t y = _
  rw [after0_5]
  exact point5 m c t y

/-- The third result after the run is the scales of the arguments. -/
theorem final6 (c : Dev nD) : (dats m 0 c).arrAt 6 cfg0.N = GT (m ((c : Thread nD τ).loc main_arg0)) (m ((c : Thread nD τ).loc main_arg1)) := by
  refine (dats m 0 c).arrAt_eq_of_covers 6 _ (by decide +kernel) fun t hf y => ?_
  show (dats m 0 c).after 6 t y = _
  rw [after0_6]
  exact point6 m c t y

/-- Every run of the ideal kernel ends with the three results as the functions above of the arguments, which are unchanged. -/
theorem run : θ_run defs (onTc (τ := τ) (main (F := Ideal))) ⟨m, fun _ => 0, ρ⟩ (fun r => ∀ c : Dev nD,
      r.2.mem ((c.tc : Thread nD τ).loc main_v2_0) = GY (m ((c : Thread nD τ).loc main_arg0)) (m ((c : Thread nD τ).loc main_arg1))
        (m ((c : Thread nD τ).loc main_arg2)) (m ((c : Thread nD τ).loc main_arg3))
      ∧ r.2.mem ((c.tc : Thread nD τ).loc main_v2_1) = GC (m ((c : Thread nD τ).loc main_arg0)) (m ((c : Thread nD τ).loc main_arg1))
      ∧ r.2.mem ((c.tc : Thread nD τ).loc main_v2_2) = GT (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 4).trans (final4 m c),
      ((h c).1 5).trans (final5 m c),
      ((h c).1 6).trans (final6 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.Hand

end
-- ==== Proof.RPay.lean ====
/- The reference's three results at an index: the row's scale, its codes, and the product. -/
module

public import proofs.«01_k».proof.Proof.Quant
public import proofs.«01_k».proof.Proof.Gen.ReferenceIdeal.Value

@[expose] public section

set_option maxRecDepth 16384

noncomputable section

namespace Cert.ReferenceIdeal.Hand

open Idealize.ShloMosaic Cert.Hand
open Cert.ReferenceIdeal Cert.ReferenceIdeal.Gen

variable (x : Vec Ideal S1x256x7168 .bf16) (s : Vec Ideal S7168 .f32) (w : Vec Ideal S7168x18432 .i8) (ws : Vec Ideal S18432 .f32)

/-- Row `r` of the activations times the smoothing factors. -/
abbrev row (r : Fin 256) : Fin 7168 → EReal := fun k => x (ix3 (0 : Fin 1) r k) * s (ix1 k)

/-- The third result is each row's scale. -/
theorem scale_apply (o : Fin 1) (r : Fin 256) : k0_pay2 x s (ix2 o r) = rowScale (row x s r) := by
  pointwise [k0_pay2, k0_pay1]
  rfl

/-- The second result is each row's codes. -/
theorem codes_apply (o : Fin 1) (r : Fin 256) (k : Fin 7168) : k0_pay3 x s (ix3 o r k) = rowCode (row x s r) k := by
  obtain rfl : o = 0 := Subsingleton.elim _ _
  pointwise [k0_pay3, k0_pay1]
  rw [scale_apply]
  rfl

/-- The first result before its words are read: the printed sums. -/
theorem product_read (o : Fin 1) (r : Fin 256) (l : Fin 18432) : k0_pay4 x s w ws (ix3 o r l)
    = FloatOps.sitofp (F := Ideal) .f32 (Finset.univ.fold IntOp.addi 0#32 fun i : Fin 14 => FloatOps.fptosi (F := Ideal) (φ := .f32) 32
        (∑ j : Fin 512, FloatOps.sitofp (F := Ideal) .bf16 (w (ix2 (⟨i.val * 512 + j.val, by omega⟩ : Fin 7168) l))
          * FloatOps.sitofp (F := Ideal) .bf16 (k0_pay3 x s (ix3 (0 : Fin 1) r (⟨i.val * 512 + j.val, by omega⟩ : Fin 7168)))))
      * k0_pay2 x s (ix2 (0 : Fin 1) r) * ws (ix1 l) := by
  pointwise [k0_pay4]

/-- The first result is, element by element, the row's codes times the weights' column, scaled. -/
theorem product_apply (o : Fin 1) (r : Fin 256) (l : Fin 18432) :
    k0_pay4 x s w ws (ix3 o r l) = rowY (row x s r) (fun k => w (ix2 k l)) (ws (ix1 l)) := by
  rw [product_read, scale_apply]
  simp only [codes_apply]
  have h : ∀ i : Fin 14, FloatOps.fptosi (F := Ideal) (φ := .f32) 32
        (∑ j : Fin 512, FloatOps.sitofp (F := Ideal) .bf16 (w (ix2 (⟨i.val * 512 + j.val, by omega⟩ : Fin 7168) l))
          * FloatOps.sitofp (F := Ideal) .bf16 (rowCode (row x s r) (⟨i.val * 512 + j.val, by omega⟩ : Fin 7168)))
      = BitVec.ofInt 32 (∑ j : Fin 512, (fun k : Fin 7168 => (rowCode (row x s r) k).toInt * (w (ix2 k l)).toInt) ⟨i.val * 512 + j.val, by omega⟩) := by
    intro i
    refine (word_dot (n := 512) (by decide) (fun j => w (ix2 (⟨i.val * 512 + j.val, by omega⟩ : Fin 7168) l))
      (fun j => rowCode (row x s r) (⟨i.val * 512 + j.val, by omega⟩ : Fin 7168))).trans ?_
    congr 1
    exact Finset.sum_congr rfl fun j _ => mul_comm _ _
  simp only [h]
  rw [blocks14 (fun k : Fin 7168 => (rowCode (row x s r) k).toInt * (w (ix2 k l)).toInt) (fun i j => by omega)]
  rfl

end Cert.ReferenceIdeal.Hand

end
-- ==== Proof.Compare.lean ====
/- The reference's three results and the ideal kernel's are the same functions of the arguments. -/
module

public import proofs.«01_k».proof.Proof.KValue
public import proofs.«01_k».proof.Proof.RPay
public import proofs.«01_k».proof.Proof.Gen.ReferenceIdeal.Value

@[expose] public section

set_option maxRecDepth 16384

noncomputable section

namespace Cert.Hand

open Idealize.ShloMosaic
open Cert.KernelIdeal Cert.KernelIdeal.Hand

variable (a0 : Vec Ideal S1x256x7168 .bf16) (a1 : Vec Ideal S7168 .f32) (a2 : Vec Ideal S7168x18432 .i8) (a3 : Vec Ideal S18432 .f32)

/-- The products agree at every element. -/
theorem eq4 : Cert.ReferenceIdeal.Value.G4 (F := Ideal) a0 a1 a2 a3 = GY a0 a1 a2 a3 := by
  funext j
  idx_vars j
  exact Cert.ReferenceIdeal.Hand.product_apply a0 a1 a2 a3 j0 j1 j2

/-- The codes agree at every element. -/
theorem eq5 : Cert.ReferenceIdeal.Value.G5 (F := Ideal) a0 a1 a2 a3 = GC a0 a1 := by
  funext j
  idx_vars j
  exact Cert.ReferenceIdeal.Hand.codes_apply a0 a1 j0 j1 j2

/-- The scales agree at every row. -/
theorem eq6 : Cert.ReferenceIdeal.Value.G6 (F := Ideal) a0 a1 a2 a3 = GT a0 a1 := by
  funext j
  idx_vars j
  exact Cert.ReferenceIdeal.Hand.scale_apply a0 a1 j0 j1

end Cert.Hand

end
-- ==== Proof.lean ====
/- The certificate: three programs run to the end and leave their arguments unchanged, the kernel's idealization preserves it,
   and the ideal kernel computes what the reference computes. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KFrame
public import proofs.«01_k».proof.Proof.KBits
public import proofs.«01_k».proof.Proof.KValue
public import proofs.«01_k».proof.Proof.Compare
public import Idealize.ShloMosaic.Adequacy
public import Idealize.ShloMosaic.Init

@[expose] public section

noncomputable section

namespace Cert.Proof

open Idealize.ShloMosaic Idealize.SL.Sem Cert.Kernel

/-- From equal arguments the ideal kernel and the reference end with equal products, codes and scales, their arguments unchanged. -/
theorem algebraic [hK : Cert.KernelIdeal.Facts] [hR : Cert.ReferenceIdeal.Facts] : Cert.algebraic_KernelIdeal_ReferenceIdeal := by
  intro m g m' g' _ hargs
  refine ⟨_, _, _, Cert.KernelIdeal.Hand.run m g, (θ_run _ _ _).mono (fun r h c => ?_) (Cert.ReferenceIdeal.Value.run m' g')⟩
  obtain ⟨h4, h5, h6, k0, k1, k2, k3⟩ := h c
  obtain ⟨e0, e1, e2, e3⟩ := hargs c
  refine ⟨h4.trans ((Cert.Hand.eq4 _ _ _ _).trans ?_), h5.trans ((Cert.Hand.eq5 _ _ _ _).trans ?_), h6.trans ((Cert.Hand.eq6 _ _ _ _).trans ?_), k0, k1, k2, k3⟩
  · rw [e0, e1, e2, e3]
  · rw [e0, e1]
  · rw [e0, e1]

/-- Every claim of the certificate. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ,
  trivial, algebraic⟩

end Cert.Proof

end
